-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S8x2x512x1024 : Shape := ⟨4, ![8, 2, 512, 1024]⟩
abbrev S512x4096 : Shape := ⟨2, ![512, 4096]⟩
abbrev S8x2 : Shape := ⟨2, ![8, 2]⟩
abbrev S8 : Shape := ⟨1, ![8]⟩
abbrev S_ : Shape := ⟨0, ![]⟩
abbrev S512x512 : Shape := ⟨2, ![512, 512]⟩
abbrev S512x1024 : Shape := ⟨2, ![512, 1024]⟩
abbrev S1x1x512x1024 : Shape := ⟨4, ![1, 1, 512, 1024]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .fp8e4m3⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e4m3⟩
  | .local _ .vmem, ⟨1, _⟩ => ⟨S512x8192, .fp8e5m2⟩
  | .local _ .vmem, ⟨2, _⟩ => ⟨S512x8192, .f32⟩
  | .local _ .vmem, ⟨3, _⟩ => ⟨S8x2x512x1024, .bf16⟩
  | .local _ .vmem, ⟨4, _⟩ => ⟨S512x4096, .bf16⟩
  | .local _ .vmem, ⟨5, _⟩ => ⟨S512x4096, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => true
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 10 37 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_12 : BitVec 32 := 1#32
  let v20 : BitVec 32 := Scalar.muli v10 c1_i32_12
  let v21 : BitVec 32 := Scalar.addi c0_i32_13 v20
  v21.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_14 : BitVec 32 := 8#32
  let v22 : BitVec 32 := Scalar.addi v5 c8_i32_14
  let c1_i32_15 : BitVec 32 := 1#32
  let v23 : BitVec 32 := Scalar.subi v22 c1_i32_15
  let c8_i32_16 : BitVec 32 := 8#32
  let v24 : BitVec 32 := Scalar.remsi v23 c8_i32_16
  let c4_i32_17 : BitVec 32 := 4#32
  let v25 : BitVec 1 := Scalar.cmpi .slt v24 c4_i32_17
  let c11_i32_18 : BitVec 32 := 11#32
  let v26 : BitVec 32 := Scalar.subi c11_i32_18 v24
  let v27 : BitVec 32 := Scalar.select v25 v24 v26
  let c512_i32 : BitVec 32 := 512#32
  let v33 : BitVec 32 := Scalar.muli v27 c512_i32
  let v34 : Index := Scalar.indexCast v33
  let c0 : Index := 0#32
  ![v34.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_19 : BitVec 32 := 1#32
  let v28 : BitVec 32 := Scalar.addi v5 c1_i32_19
  let c8_i32_20 : BitVec 32 := 8#32
  let v29 : BitVec 32 := Scalar.remsi v28 c8_i32_20
  let c4_i32_21 : BitVec 32 := 4#32
  let v30 : BitVec 1 := Scalar.cmpi .slt v29 c4_i32_21
  let c11_i32_22 : BitVec 32 := 11#32
  let v31 : BitVec 32 := Scalar.subi c11_i32_22 v29
  let v32 : BitVec 32 := Scalar.select v30 v29 v31
  let c512_i32_23 : BitVec 32 := 512#32
  let v38 : BitVec 32 := Scalar.muli v32 c512_i32_23
  let v39 : Index := Scalar.indexCast v38
  let c0_24 : Index := 0#32
  ![v39.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_39 : BitVec 32 := 1#32
  let v51 : BitVec 32 := Scalar.muli v10 c1_i32_39
  let v52 : BitVec 32 := Scalar.addi c0_i32_40 v51
  v52.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_58 : BitVec 32 := 1#32
  let v69 : BitVec 32 := Scalar.muli v16 c1_i32_58
  let v70 : BitVec 32 := Scalar.addi c0_i32_59 v69
  v70.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_77 : BitVec 32 := 1#32
  let v87 : BitVec 32 := Scalar.muli v10 c1_i32_77
  let v88 : BitVec 32 := Scalar.addi c0_i32_78 v87
  v88.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_95 : BitVec 32 := 1#32
  let v105 : BitVec 32 := Scalar.muli v16 c1_i32_95
  let v106 : BitVec 32 := Scalar.addi c0_i32_96 v105
  v106.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_114 : BitVec 32 := 1#32
  let v123 : BitVec 32 := Scalar.muli v10 c1_i32_114
  let v124 : BitVec 32 := Scalar.addi c0_i32_115 v123
  v124.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_132 : BitVec 32 := 1#32
  let v141 : BitVec 32 := Scalar.muli v16 c1_i32_132
  let v142 : BitVec 32 := Scalar.addi c0_i32_133 v141
  v142.toNat
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_150 : BitVec 32 := 1#32
  let v159 : BitVec 32 := Scalar.muli v10 c1_i32_150
  let v160 : BitVec 32 := Scalar.addi c0_i32_151 v159
  v160.toNat
def k0_dev10 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_168 : BitVec 32 := 1#32
  let v177 : BitVec 32 := Scalar.muli v16 c1_i32_168
  let v178 : BitVec 32 := Scalar.addi c0_i32_169 v177
  v178.toNat
def k0_off3 (d0 : Dev nD) (c0_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v187 : BitVec 32 := Scalar.addi v5 c16_i32
  let v188 : BitVec 32 := Scalar.subi v187 c0_i32_174
  let c2_i32_175 : BitVec 32 := 2#32
  let v189 : BitVec 32 := Scalar.subi v188 c2_i32_175
  let c8_i32_176 : BitVec 32 := 8#32
  let v190 : BitVec 32 := Scalar.remsi v189 c8_i32_176
  let c4_i32_177 : BitVec 32 := 4#32
  let v191 : BitVec 1 := Scalar.cmpi .slt v190 c4_i32_177
  let c11_i32_178 : BitVec 32 := 11#32
  let v192 : BitVec 32 := Scalar.subi c11_i32_178 v190
  let v193 : BitVec 32 := Scalar.select v191 v190 v192
  let c512_i32_179 : BitVec 32 := 512#32
  let v194 : BitVec 32 := Scalar.muli v193 c512_i32_179
  let v195 : Index := Scalar.indexCast v194
  let c0_180 : Index := 0#32
  ![v195.toNat, 0]
def k0_off4 (d0 : Dev nD) (c0_i32_201 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v231 : BitVec 32 := Scalar.addi v5 c0_i32_201
  let c2_i32_202 : BitVec 32 := 2#32
  let v232 : BitVec 32 := Scalar.addi v231 c2_i32_202
  let c8_i32_203 : BitVec 32 := 8#32
  let v233 : BitVec 32 := Scalar.remsi v232 c8_i32_203
  let c4_i32_204 : BitVec 32 := 4#32
  let v234 : BitVec 1 := Scalar.cmpi .slt v233 c4_i32_204
  let c11_i32_205 : BitVec 32 := 11#32
  let v235 : BitVec 32 := Scalar.subi c11_i32_205 v233
  let v236 : BitVec 32 := Scalar.select v234 v233 v235
  let c512_i32_206 : BitVec 32 := 512#32
  let v237 : BitVec 32 := Scalar.muli v236 c512_i32_206
  let v238 : Index := Scalar.indexCast v237
  let c0_207 : Index := 0#32
  ![v238.toNat, 0]
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_243 : BitVec 32 := 1#32
  let v282 : BitVec 32 := Scalar.muli v16 c1_i32_243
  let v283 : BitVec 32 := Scalar.addi c0_i32_244 v282
  v283.toNat
def k0_dev12 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_280 : BitVec 32 := 1#32
  let v304 : BitVec 32 := Scalar.muli v10 c1_i32_280
  let v305 : BitVec 32 := Scalar.addi c0_i32_281 v304
  v305.toNat
def k0_dev13 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_301 : BitVec 32 := 1#32
  let v322 : BitVec 32 := Scalar.muli v10 c1_i32_301
  let v323 : BitVec 32 := Scalar.addi c0_i32_302 v322
  v323.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_338 : BitVec 32 := 1#32
  let v344 : BitVec 32 := Scalar.muli v16 c1_i32_338
  let v345 : BitVec 32 := Scalar.addi c0_i32_339 v344
  v345.toNat
def k0_dev15 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_359 : BitVec 32 := 1#32
  let v362 : BitVec 32 := Scalar.muli v16 c1_i32_359
  let v363 : BitVec 32 := Scalar.addi c0_i32_360 v362
  v363.toNat
def k0_dev16 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_396 : BitVec 32 := 1#32
  let v384 : BitVec 32 := Scalar.muli v10 c1_i32_396
  let v385 : BitVec 32 := Scalar.addi c0_i32_397 v384
  v385.toNat
def k0_dev17 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_417 : BitVec 32 := 1#32
  let v402 : BitVec 32 := Scalar.muli v10 c1_i32_417
  let v403 : BitVec 32 := Scalar.addi c0_i32_418 v402
  v403.toNat
def k0_dev18 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_454 : BitVec 32 := 1#32
  let v424 : BitVec 32 := Scalar.muli v16 c1_i32_454
  let v425 : BitVec 32 := Scalar.addi c0_i32_455 v424
  v425.toNat
def k0_dev19 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_475 : BitVec 32 := 1#32
  let v442 : BitVec 32 := Scalar.muli v16 c1_i32_475
  let v443 : BitVec 32 := Scalar.addi c0_i32_476 v442
  v443.toNat
def k0_dev20 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_512 : BitVec 32 := 1#32
  let v464 : BitVec 32 := Scalar.muli v10 c1_i32_512
  let v465 : BitVec 32 := Scalar.addi c0_i32_513 v464
  v465.toNat
def k0_dev21 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_533 : BitVec 32 := 1#32
  let v482 : BitVec 32 := Scalar.muli v10 c1_i32_533
  let v483 : BitVec 32 := Scalar.addi c0_i32_534 v482
  v483.toNat
def k0_dev22 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_570 : BitVec 32 := 1#32
  let v504 : BitVec 32 := Scalar.muli v16 c1_i32_570
  let v505 : BitVec 32 := Scalar.addi c0_i32_571 v504
  v505.toNat
def k0_dev23 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_591 : BitVec 32 := 1#32
  let v522 : BitVec 32 := Scalar.muli v16 c1_i32_591
  let v523 : BitVec 32 := Scalar.addi c0_i32_592 v522
  v523.toNat
def k0_dev24 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_628 : BitVec 32 := 1#32
  let v544 : BitVec 32 := Scalar.muli v10 c1_i32_628
  let v545 : BitVec 32 := Scalar.addi c0_i32_629 v544
  v545.toNat
def k0_dev25 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_649 : BitVec 32 := 1#32
  let v562 : BitVec 32 := Scalar.muli v10 c1_i32_649
  let v563 : BitVec 32 := Scalar.addi c0_i32_650 v562
  v563.toNat
def k0_dev26 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_686 : BitVec 32 := 1#32
  let v584 : BitVec 32 := Scalar.muli v16 c1_i32_686
  let v585 : BitVec 32 := Scalar.addi c0_i32_687 v584
  v585.toNat
def k0_dev27 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_762 : BitVec 32 := 1#32
  let v689 : BitVec 32 := Scalar.muli v16 c1_i32_762
  let v690 : BitVec 32 := Scalar.addi c0_i32_763 v689
  v690.toNat
def k0_dev28 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_799 : BitVec 32 := 1#32
  let v711 : BitVec 32 := Scalar.muli v10 c1_i32_799
  let v712 : BitVec 32 := Scalar.addi c0_i32_800 v711
  v712.toNat
def k0_dev29 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_820 : BitVec 32 := 1#32
  let v729 : BitVec 32 := Scalar.muli v10 c1_i32_820
  let v730 : BitVec 32 := Scalar.addi c0_i32_821 v729
  v730.toNat
def k0_dev30 (d0 : Dev nD) : Nat :=
  let c0_i32_858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_857 : BitVec 32 := 1#32
  let v751 : BitVec 32 := Scalar.muli v16 c1_i32_857
  let v752 : BitVec 32 := Scalar.addi c0_i32_858 v751
  v752.toNat
def k0_dev31 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_878 : BitVec 32 := 1#32
  let v769 : BitVec 32 := Scalar.muli v16 c1_i32_878
  let v770 : BitVec 32 := Scalar.addi c0_i32_879 v769
  v770.toNat
def k0_dev32 (d0 : Dev nD) : Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_915 : BitVec 32 := 1#32
  let v791 : BitVec 32 := Scalar.muli v10 c1_i32_915
  let v792 : BitVec 32 := Scalar.addi c0_i32_916 v791
  v792.toNat
def k0_dev33 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_936 : BitVec 32 := 1#32
  let v809 : BitVec 32 := Scalar.muli v10 c1_i32_936
  let v810 : BitVec 32 := Scalar.addi c0_i32_937 v809
  v810.toNat
def k0_dev34 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_973 : BitVec 32 := 1#32
  let v831 : BitVec 32 := Scalar.muli v16 c1_i32_973
  let v832 : BitVec 32 := Scalar.addi c0_i32_974 v831
  v832.toNat
def k0_dev35 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_994 : BitVec 32 := 1#32
  let v849 : BitVec 32 := Scalar.muli v16 c1_i32_994
  let v850 : BitVec 32 := Scalar.addi c0_i32_995 v849
  v850.toNat
def k0_dev36 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1031 : BitVec 32 := 1#32
  let v871 : BitVec 32 := Scalar.muli v10 c1_i32_1031
  let v872 : BitVec 32 := Scalar.addi c0_i32_1032 v871
  v872.toNat
def k0_dev37 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1052 : BitVec 32 := 1#32
  let v889 : BitVec 32 := Scalar.muli v10 c1_i32_1052
  let v890 : BitVec 32 := Scalar.addi c0_i32_1053 v889
  v890.toNat
def k0_dev38 (d0 : Dev nD) : Nat :=
  let c0_i32_1090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1089 : BitVec 32 := 1#32
  let v911 : BitVec 32 := Scalar.muli v16 c1_i32_1089
  let v912 : BitVec 32 := Scalar.addi c0_i32_1090 v911
  v912.toNat
def k0_dev39 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1110 : BitVec 32 := 1#32
  let v929 : BitVec 32 := Scalar.muli v16 c1_i32_1110
  let v930 : BitVec 32 := Scalar.addi c0_i32_1111 v929
  v930.toNat
def k0_dev40 (d0 : Dev nD) : Nat :=
  let c0_i32_1148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1147 : BitVec 32 := 1#32
  let v951 : BitVec 32 := Scalar.muli v10 c1_i32_1147
  let v952 : BitVec 32 := Scalar.addi c0_i32_1148 v951
  v952.toNat
def k0_dev41 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1168 : BitVec 32 := 1#32
  let v969 : BitVec 32 := Scalar.muli v10 c1_i32_1168
  let v970 : BitVec 32 := Scalar.addi c0_i32_1169 v969
  v970.toNat
def k0_dev42 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1205 : BitVec 32 := 1#32
  let v991 : BitVec 32 := Scalar.muli v16 c1_i32_1205
  let v992 : BitVec 32 := Scalar.addi c0_i32_1206 v991
  v992.toNat
def k0_dev43 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1281 : BitVec 32 := 1#32
  let v1096 : BitVec 32 := Scalar.muli v16 c1_i32_1281
  let v1097 : BitVec 32 := Scalar.addi c0_i32_1282 v1096
  v1097.toNat
def k0_dev44 (d0 : Dev nD) : Nat :=
  let c0_i32_1319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1318 : BitVec 32 := 1#32
  let v1118 : BitVec 32 := Scalar.muli v10 c1_i32_1318
  let v1119 : BitVec 32 := Scalar.addi c0_i32_1319 v1118
  v1119.toNat
def k0_dev45 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1339 : BitVec 32 := 1#32
  let v1136 : BitVec 32 := Scalar.muli v10 c1_i32_1339
  let v1137 : BitVec 32 := Scalar.addi c0_i32_1340 v1136
  v1137.toNat
def k0_dev46 (d0 : Dev nD) : Nat :=
  let c0_i32_1377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1376 : BitVec 32 := 1#32
  let v1158 : BitVec 32 := Scalar.muli v16 c1_i32_1376
  let v1159 : BitVec 32 := Scalar.addi c0_i32_1377 v1158
  v1159.toNat
def k0_dev47 (d0 : Dev nD) : Nat :=
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1397 : BitVec 32 := 1#32
  let v1176 : BitVec 32 := Scalar.muli v16 c1_i32_1397
  let v1177 : BitVec 32 := Scalar.addi c0_i32_1398 v1176
  v1177.toNat
def k0_dev48 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1434 : BitVec 32 := 1#32
  let v1198 : BitVec 32 := Scalar.muli v10 c1_i32_1434
  let v1199 : BitVec 32 := Scalar.addi c0_i32_1435 v1198
  v1199.toNat
def k0_dev49 (d0 : Dev nD) : Nat :=
  let c0_i32_1456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1455 : BitVec 32 := 1#32
  let v1216 : BitVec 32 := Scalar.muli v10 c1_i32_1455
  let v1217 : BitVec 32 := Scalar.addi c0_i32_1456 v1216
  v1217.toNat
def k0_dev50 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1492 : BitVec 32 := 1#32
  let v1238 : BitVec 32 := Scalar.muli v16 c1_i32_1492
  let v1239 : BitVec 32 := Scalar.addi c0_i32_1493 v1238
  v1239.toNat
def k0_dev51 (d0 : Dev nD) : Nat :=
  let c0_i32_1514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1513 : BitVec 32 := 1#32
  let v1256 : BitVec 32 := Scalar.muli v16 c1_i32_1513
  let v1257 : BitVec 32 := Scalar.addi c0_i32_1514 v1256
  v1257.toNat
def k0_dev52 (d0 : Dev nD) : Nat :=
  let c0_i32_1551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1550 : BitVec 32 := 1#32
  let v1278 : BitVec 32 := Scalar.muli v10 c1_i32_1550
  let v1279 : BitVec 32 := Scalar.addi c0_i32_1551 v1278
  v1279.toNat
def k0_dev53 (d0 : Dev nD) : Nat :=
  let c0_i32_1572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1571 : BitVec 32 := 1#32
  let v1296 : BitVec 32 := Scalar.muli v10 c1_i32_1571
  let v1297 : BitVec 32 := Scalar.addi c0_i32_1572 v1296
  v1297.toNat
def k0_dev54 (d0 : Dev nD) : Nat :=
  let c0_i32_1609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1608 : BitVec 32 := 1#32
  let v1318 : BitVec 32 := Scalar.muli v16 c1_i32_1608
  let v1319 : BitVec 32 := Scalar.addi c0_i32_1609 v1318
  v1319.toNat
def k0_dev55 (d0 : Dev nD) : Nat :=
  let c0_i32_1630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1629 : BitVec 32 := 1#32
  let v1336 : BitVec 32 := Scalar.muli v16 c1_i32_1629
  let v1337 : BitVec 32 := Scalar.addi c0_i32_1630 v1336
  v1337.toNat
def k0_dev56 (d0 : Dev nD) : Nat :=
  let c0_i32_1667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1666 : BitVec 32 := 1#32
  let v1358 : BitVec 32 := Scalar.muli v10 c1_i32_1666
  let v1359 : BitVec 32 := Scalar.addi c0_i32_1667 v1358
  v1359.toNat
def k0_dev57 (d0 : Dev nD) : Nat :=
  let c0_i32_1688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1687 : BitVec 32 := 1#32
  let v1376 : BitVec 32 := Scalar.muli v10 c1_i32_1687
  let v1377 : BitVec 32 := Scalar.addi c0_i32_1688 v1376
  v1377.toNat
def k0_dev58 (d0 : Dev nD) : Nat :=
  let c0_i32_1725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1724 : BitVec 32 := 1#32
  let v1398 : BitVec 32 := Scalar.muli v16 c1_i32_1724
  let v1399 : BitVec 32 := Scalar.addi c0_i32_1725 v1398
  v1399.toNat
def k0_dev59 (d0 : Dev nD) : Nat :=
  let c0_i32_1801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1800 : BitVec 32 := 1#32
  let v1503 : BitVec 32 := Scalar.muli v16 c1_i32_1800
  let v1504 : BitVec 32 := Scalar.addi c0_i32_1801 v1503
  v1504.toNat
def k0_dev60 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1837 : BitVec 32 := 1#32
  let v1525 : BitVec 32 := Scalar.muli v10 c1_i32_1837
  let v1526 : BitVec 32 := Scalar.addi c0_i32_1838 v1525
  v1526.toNat
def k0_dev61 (d0 : Dev nD) : Nat :=
  let c0_i32_1859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1858 : BitVec 32 := 1#32
  let v1543 : BitVec 32 := Scalar.muli v10 c1_i32_1858
  let v1544 : BitVec 32 := Scalar.addi c0_i32_1859 v1543
  v1544.toNat
def k0_dev62 (d0 : Dev nD) : Nat :=
  let c0_i32_1896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1895 : BitVec 32 := 1#32
  let v1565 : BitVec 32 := Scalar.muli v16 c1_i32_1895
  let v1566 : BitVec 32 := Scalar.addi c0_i32_1896 v1565
  v1566.toNat
def k0_dev63 (d0 : Dev nD) : Nat :=
  let c0_i32_1917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1916 : BitVec 32 := 1#32
  let v1583 : BitVec 32 := Scalar.muli v16 c1_i32_1916
  let v1584 : BitVec 32 := Scalar.addi c0_i32_1917 v1583
  v1584.toNat
def k0_dev64 (d0 : Dev nD) : Nat :=
  let c0_i32_1954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1953 : BitVec 32 := 1#32
  let v1605 : BitVec 32 := Scalar.muli v10 c1_i32_1953
  let v1606 : BitVec 32 := Scalar.addi c0_i32_1954 v1605
  v1606.toNat
def k0_dev65 (d0 : Dev nD) : Nat :=
  let c0_i32_1975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1974 : BitVec 32 := 1#32
  let v1623 : BitVec 32 := Scalar.muli v10 c1_i32_1974
  let v1624 : BitVec 32 := Scalar.addi c0_i32_1975 v1623
  v1624.toNat
def k0_dev66 (d0 : Dev nD) : Nat :=
  let c0_i32_2012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2011 : BitVec 32 := 1#32
  let v1645 : BitVec 32 := Scalar.muli v16 c1_i32_2011
  let v1646 : BitVec 32 := Scalar.addi c0_i32_2012 v1645
  v1646.toNat
def k0_dev67 (d0 : Dev nD) : Nat :=
  let c0_i32_2033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2032 : BitVec 32 := 1#32
  let v1663 : BitVec 32 := Scalar.muli v16 c1_i32_2032
  let v1664 : BitVec 32 := Scalar.addi c0_i32_2033 v1663
  v1664.toNat
def k0_dev68 (d0 : Dev nD) : Nat :=
  let c0_i32_2070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2069 : BitVec 32 := 1#32
  let v1685 : BitVec 32 := Scalar.muli v10 c1_i32_2069
  let v1686 : BitVec 32 := Scalar.addi c0_i32_2070 v1685
  v1686.toNat
def k0_dev69 (d0 : Dev nD) : Nat :=
  let c0_i32_2091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2090 : BitVec 32 := 1#32
  let v1703 : BitVec 32 := Scalar.muli v10 c1_i32_2090
  let v1704 : BitVec 32 := Scalar.addi c0_i32_2091 v1703
  v1704.toNat
def k0_dev70 (d0 : Dev nD) : Nat :=
  let c0_i32_2128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2127 : BitVec 32 := 1#32
  let v1725 : BitVec 32 := Scalar.muli v16 c1_i32_2127
  let v1726 : BitVec 32 := Scalar.addi c0_i32_2128 v1725
  v1726.toNat
def k0_dev71 (d0 : Dev nD) : Nat :=
  let c0_i32_2149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2148 : BitVec 32 := 1#32
  let v1743 : BitVec 32 := Scalar.muli v16 c1_i32_2148
  let v1744 : BitVec 32 := Scalar.addi c0_i32_2149 v1743
  v1744.toNat
def k0_dev72 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2185 : BitVec 32 := 1#32
  let v1765 : BitVec 32 := Scalar.muli v10 c1_i32_2185
  let v1766 : BitVec 32 := Scalar.addi c0_i32_2186 v1765
  v1766.toNat
def k0_dev73 (d0 : Dev nD) : Nat :=
  let c0_i32_2207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2206 : BitVec 32 := 1#32
  let v1783 : BitVec 32 := Scalar.muli v10 c1_i32_2206
  let v1784 : BitVec 32 := Scalar.addi c0_i32_2207 v1783
  v1784.toNat
def k0_dev74 (d0 : Dev nD) : Nat :=
  let c0_i32_2244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2243 : BitVec 32 := 1#32
  let v1805 : BitVec 32 := Scalar.muli v16 c1_i32_2243
  let v1806 : BitVec 32 := Scalar.addi c0_i32_2244 v1805
  v1806.toNat
def k0_dev75 (d0 : Dev nD) : Nat :=
  let c0_i32_2320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2319 : BitVec 32 := 1#32
  let v1910 : BitVec 32 := Scalar.muli v16 c1_i32_2319
  let v1911 : BitVec 32 := Scalar.addi c0_i32_2320 v1910
  v1911.toNat
def k0_dev76 (d0 : Dev nD) : Nat :=
  let c0_i32_2357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2356 : BitVec 32 := 1#32
  let v1932 : BitVec 32 := Scalar.muli v10 c1_i32_2356
  let v1933 : BitVec 32 := Scalar.addi c0_i32_2357 v1932
  v1933.toNat
def k0_dev77 (d0 : Dev nD) : Nat :=
  let c0_i32_2378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2377 : BitVec 32 := 1#32
  let v1950 : BitVec 32 := Scalar.muli v10 c1_i32_2377
  let v1951 : BitVec 32 := Scalar.addi c0_i32_2378 v1950
  v1951.toNat
def k0_dev78 (d0 : Dev nD) : Nat :=
  let c0_i32_2415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2414 : BitVec 32 := 1#32
  let v1972 : BitVec 32 := Scalar.muli v16 c1_i32_2414
  let v1973 : BitVec 32 := Scalar.addi c0_i32_2415 v1972
  v1973.toNat
def k0_dev79 (d0 : Dev nD) : Nat :=
  let c0_i32_2436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2435 : BitVec 32 := 1#32
  let v1990 : BitVec 32 := Scalar.muli v16 c1_i32_2435
  let v1991 : BitVec 32 := Scalar.addi c0_i32_2436 v1990
  v1991.toNat
def k0_dev80 (d0 : Dev nD) : Nat :=
  let c0_i32_2473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2472 : BitVec 32 := 1#32
  let v2012 : BitVec 32 := Scalar.muli v10 c1_i32_2472
  let v2013 : BitVec 32 := Scalar.addi c0_i32_2473 v2012
  v2013.toNat
def k0_dev81 (d0 : Dev nD) : Nat :=
  let c0_i32_2494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2493 : BitVec 32 := 1#32
  let v2030 : BitVec 32 := Scalar.muli v10 c1_i32_2493
  let v2031 : BitVec 32 := Scalar.addi c0_i32_2494 v2030
  v2031.toNat
def k0_dev82 (d0 : Dev nD) : Nat :=
  let c0_i32_2531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2530 : BitVec 32 := 1#32
  let v2052 : BitVec 32 := Scalar.muli v16 c1_i32_2530
  let v2053 : BitVec 32 := Scalar.addi c0_i32_2531 v2052
  v2053.toNat
def k0_dev83 (d0 : Dev nD) : Nat :=
  let c0_i32_2552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2551 : BitVec 32 := 1#32
  let v2070 : BitVec 32 := Scalar.muli v16 c1_i32_2551
  let v2071 : BitVec 32 := Scalar.addi c0_i32_2552 v2070
  v2071.toNat
def k0_dev84 (d0 : Dev nD) : Nat :=
  let c0_i32_2589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2588 : BitVec 32 := 1#32
  let v2092 : BitVec 32 := Scalar.muli v10 c1_i32_2588
  let v2093 : BitVec 32 := Scalar.addi c0_i32_2589 v2092
  v2093.toNat
def k0_dev85 (d0 : Dev nD) : Nat :=
  let c0_i32_2610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2609 : BitVec 32 := 1#32
  let v2110 : BitVec 32 := Scalar.muli v10 c1_i32_2609
  let v2111 : BitVec 32 := Scalar.addi c0_i32_2610 v2110
  v2111.toNat
def k0_dev86 (d0 : Dev nD) : Nat :=
  let c0_i32_2647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2646 : BitVec 32 := 1#32
  let v2132 : BitVec 32 := Scalar.muli v16 c1_i32_2646
  let v2133 : BitVec 32 := Scalar.addi c0_i32_2647 v2132
  v2133.toNat
def k0_dev87 (d0 : Dev nD) : Nat :=
  let c0_i32_2668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2667 : BitVec 32 := 1#32
  let v2150 : BitVec 32 := Scalar.muli v16 c1_i32_2667
  let v2151 : BitVec 32 := Scalar.addi c0_i32_2668 v2150
  v2151.toNat
def k0_dev88 (d0 : Dev nD) : Nat :=
  let c0_i32_2705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2704 : BitVec 32 := 1#32
  let v2172 : BitVec 32 := Scalar.muli v10 c1_i32_2704
  let v2173 : BitVec 32 := Scalar.addi c0_i32_2705 v2172
  v2173.toNat
def k0_dev89 (d0 : Dev nD) : Nat :=
  let c0_i32_2726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2725 : BitVec 32 := 1#32
  let v2190 : BitVec 32 := Scalar.muli v10 c1_i32_2725
  let v2191 : BitVec 32 := Scalar.addi c0_i32_2726 v2190
  v2191.toNat
def k0_dev90 (d0 : Dev nD) : Nat :=
  let c0_i32_2763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2762 : BitVec 32 := 1#32
  let v2212 : BitVec 32 := Scalar.muli v16 c1_i32_2762
  let v2213 : BitVec 32 := Scalar.addi c0_i32_2763 v2212
  v2213.toNat
def k0_dev91 (d0 : Dev nD) : Nat :=
  let c0_i32_2839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2838 : BitVec 32 := 1#32
  let v2317 : BitVec 32 := Scalar.muli v16 c1_i32_2838
  let v2318 : BitVec 32 := Scalar.addi c0_i32_2839 v2317
  v2318.toNat
def k0_dev92 (d0 : Dev nD) : Nat :=
  let c0_i32_2876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2875 : BitVec 32 := 1#32
  let v2339 : BitVec 32 := Scalar.muli v10 c1_i32_2875
  let v2340 : BitVec 32 := Scalar.addi c0_i32_2876 v2339
  v2340.toNat
def k0_dev93 (d0 : Dev nD) : Nat :=
  let c0_i32_2897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2896 : BitVec 32 := 1#32
  let v2357 : BitVec 32 := Scalar.muli v10 c1_i32_2896
  let v2358 : BitVec 32 := Scalar.addi c0_i32_2897 v2357
  v2358.toNat
def k0_dev94 (d0 : Dev nD) : Nat :=
  let c0_i32_2934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2933 : BitVec 32 := 1#32
  let v2379 : BitVec 32 := Scalar.muli v16 c1_i32_2933
  let v2380 : BitVec 32 := Scalar.addi c0_i32_2934 v2379
  v2380.toNat
def k0_dev95 (d0 : Dev nD) : Nat :=
  let c0_i32_2955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2954 : BitVec 32 := 1#32
  let v2397 : BitVec 32 := Scalar.muli v16 c1_i32_2954
  let v2398 : BitVec 32 := Scalar.addi c0_i32_2955 v2397
  v2398.toNat
def k0_dev96 (d0 : Dev nD) : Nat :=
  let c0_i32_2992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2991 : BitVec 32 := 1#32
  let v2419 : BitVec 32 := Scalar.muli v10 c1_i32_2991
  let v2420 : BitVec 32 := Scalar.addi c0_i32_2992 v2419
  v2420.toNat
def k0_dev97 (d0 : Dev nD) : Nat :=
  let c0_i32_3013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3012 : BitVec 32 := 1#32
  let v2437 : BitVec 32 := Scalar.muli v10 c1_i32_3012
  let v2438 : BitVec 32 := Scalar.addi c0_i32_3013 v2437
  v2438.toNat
def k0_dev98 (d0 : Dev nD) : Nat :=
  let c0_i32_3050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3049 : BitVec 32 := 1#32
  let v2459 : BitVec 32 := Scalar.muli v16 c1_i32_3049
  let v2460 : BitVec 32 := Scalar.addi c0_i32_3050 v2459
  v2460.toNat
def k0_dev99 (d0 : Dev nD) : Nat :=
  let c0_i32_3071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3070 : BitVec 32 := 1#32
  let v2477 : BitVec 32 := Scalar.muli v16 c1_i32_3070
  let v2478 : BitVec 32 := Scalar.addi c0_i32_3071 v2477
  v2478.toNat
def k0_dev100 (d0 : Dev nD) : Nat :=
  let c0_i32_3108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3107 : BitVec 32 := 1#32
  let v2499 : BitVec 32 := Scalar.muli v10 c1_i32_3107
  let v2500 : BitVec 32 := Scalar.addi c0_i32_3108 v2499
  v2500.toNat
def k0_dev101 (d0 : Dev nD) : Nat :=
  let c0_i32_3129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3128 : BitVec 32 := 1#32
  let v2517 : BitVec 32 := Scalar.muli v10 c1_i32_3128
  let v2518 : BitVec 32 := Scalar.addi c0_i32_3129 v2517
  v2518.toNat
def k0_dev102 (d0 : Dev nD) : Nat :=
  let c0_i32_3166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3165 : BitVec 32 := 1#32
  let v2539 : BitVec 32 := Scalar.muli v16 c1_i32_3165
  let v2540 : BitVec 32 := Scalar.addi c0_i32_3166 v2539
  v2540.toNat
def k0_dev103 (d0 : Dev nD) : Nat :=
  let c0_i32_3187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3186 : BitVec 32 := 1#32
  let v2557 : BitVec 32 := Scalar.muli v16 c1_i32_3186
  let v2558 : BitVec 32 := Scalar.addi c0_i32_3187 v2557
  v2558.toNat
def k0_dev104 (d0 : Dev nD) : Nat :=
  let c0_i32_3224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3223 : BitVec 32 := 1#32
  let v2579 : BitVec 32 := Scalar.muli v10 c1_i32_3223
  let v2580 : BitVec 32 := Scalar.addi c0_i32_3224 v2579
  v2580.toNat
def k0_dev105 (d0 : Dev nD) : Nat :=
  let c0_i32_3245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3244 : BitVec 32 := 1#32
  let v2597 : BitVec 32 := Scalar.muli v10 c1_i32_3244
  let v2598 : BitVec 32 := Scalar.addi c0_i32_3245 v2597
  v2598.toNat
def k0_dev106 (d0 : Dev nD) : Nat :=
  let c0_i32_3282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3281 : BitVec 32 := 1#32
  let v2619 : BitVec 32 := Scalar.muli v16 c1_i32_3281
  let v2620 : BitVec 32 := Scalar.addi c0_i32_3282 v2619
  v2620.toNat
def k0_dev107 (d0 : Dev nD) : Nat :=
  let c0_i32_3672_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3671_r0 : BitVec 32 := 1#32
  let v3005_r0 : BitVec 32 := Scalar.muli v16 c1_i32_3671_r0
  let v3006_r0 : BitVec 32 := Scalar.addi c0_i32_3672_r0 v3005_r0
  v3006_r0.toNat
def k0_dev108 (d0 : Dev nD) : Nat :=
  let c0_i32_3675_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_3674_r0 : BitVec 32 := 1#32
  let v3007_r0 : BitVec 32 := Scalar.muli v10 c1_i32_3674_r0
  let v3008_r0 : BitVec 32 := Scalar.addi c0_i32_3675_r0 v3007_r0
  v3008_r0.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8192 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel's body as the steps of eight rings: each step is written once, at a symbolic ring, slot,
   hop and device, and the whole body is their sequence. -/
module

public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Ring

open Idealize.ShloMosaic Idealize.SL.Sem
open Cert.KernelIdeal Cert.KernelIdeal.Gen

variable {F : FTy → Type} [FloatOps F]

/-! ## Where each ring's data lies -/

/-- A program of the kernel's effects. -/
abbrev P (F : FTy → Type) := Prog (TpuEff nD τ sig (Elt F) Λ₀ .tc) PUnit

/-- The communication buffer: per ring two slots. -/
abbrev commM : Memref sig .tc .vmem S8x2x512x1024 .bf16 := Memref.whole cc0_scratch0
/-- The block of the left factor this device holds. -/
abbrev xM : Memref sig .tc .vmem S4096x512 .fp8e4m3 := Memref.whole cc0_stg2_0
/-- The block of the right factor this device holds. -/
abbrev wM : Memref sig .tc .vmem S512x8192 .fp8e5m2 := Memref.whole cc0_stg3_0
/-- The block of the result this device computes. -/
abbrev oM : Memref sig .tc .vmem S512x8192 .f32 := Memref.whole cc0_stg4_0
/-- The left factor's scale. -/
abbrev sxM : Memref sig .tc .smem S1 .f32 := Memref.whole cc0_stg0_0
/-- The right factor's scale. -/
abbrev swM : Memref sig .tc .smem S1 .f32 := Memref.whole cc0_stg1_0

/-- The offsets of slot `s` of ring `i` stay within the communication buffer. -/
theorem cInb (i : Fin 8) (s : Fin 2) : ∀ a, (![i.val, s.val, 0, 0] : Fin 4 → Nat) a + S1x1x512x1024.size a ≤ S8x2x512x1024.size a := by
  revert i s; decide

/-- Slot `s` of ring `i`, as a region of the communication buffer. -/
abbrev cR (i : Fin 8) (s : Fin 2) : Rect S8x2x512x1024 :=
  Rect.unit (s := S8x2x512x1024) ![i.val, s.val, 0, 0] S1x1x512x1024.size (cInb i s)

theorem cPacked : ∀ (i : Fin 8) (s : Fin 2), (cR i s).PackedRows (EltTy.packing .bf16) := by decide
theorem cWords : ∀ (i : Fin 8) (s : Fin 2), (cR i s).WholeWords (EltTy.packing .bf16) := by decide

/-- Slot `s` of ring `i`, as the matrix a transfer moves. -/
abbrev cSq (i : Fin 8) (s : Fin 2) : Memref sig .tc .vmem S512x1024 .bf16 :=
  (commM.slice (cR i s) (fun _ => rfl)).squeeze S512x1024 squeezes_S1x1x512x1024_S512x1024

theorem cSq_words (i : Fin 8) (s : Fin 2) : (cSq i s).view.WordExact :=
  ((Memref.isWhole_whole cc0_scratch0 : commM.IsWhole).wordExact_slice rfl _ (cWords i s)).reshape _ _

theorem dInb (i : Fin 8) (s : Fin 2) : ∀ a, (![i.val, s.val] : Fin 2 → Nat) a + S1x1.size a ≤ S8x2.size a := by
  revert i s; decide
theorem eInb (i : Fin 8) : ∀ a, (![i.val] : Fin 1 → Nat) a + S1.size a ≤ S8.size a := by revert i; decide

/-- The semaphore a transfer out of slot `s` of ring `i` signals at its source. -/
abbrev sendS (i : Fin 8) (s : Fin 2) : DmaSem sig :=
  ((cc0_scratch3.slice (Rect.unit (s := S8x2) ![i.val, s.val] S1x1.size (dInb i s))).squeeze S_ squeezes_S1x1_S_).sem
/-- The semaphore a transfer into slot `s` of ring `i` signals at its destination. -/
abbrev recvS (i : Fin 8) (s : Fin 2) : DmaSem sig :=
  ((cc0_scratch4.slice (Rect.unit (s := S8x2) ![i.val, s.val] S1x1.size (dInb i s))).squeeze S_ squeezes_S1x1_S_).sem
/-- The semaphore by which the next device of ring `i` grants a transfer. -/
abbrev credS (i : Fin 8) : Sem sig :=
  ((cc0_scratch5.slice (Rect.unit (s := S8) ![i.val] S1.size (eInb i))).squeeze S_ squeezes_S1_S_).sem
/-- The semaphore of the exit handshake. -/
abbrev exitS : Sem sig := (cc0_scoped0).sem
/-- The semaphore of the entry handshake. -/
abbrev barS : Sem sig := (SemArray.scalar (sig.barrier 0 rfl) : Sems sig S_).sem

/-- The device before `d` on the ring. -/
abbrev leftD (d : Dev nD) : Dev nD := ⟨k0_dev1 d, k0_dev1_lt d⟩
/-- The device after `d` on the ring. -/
abbrev rightD (d : Dev nD) : Dev nD := ⟨k0_dev2 d, k0_dev2_lt d⟩
/-- The device ring `i` sends to: even rings run right, odd ones left. -/
def fwdD (i : Fin 8) (d : Dev nD) : Dev nD := if i.val % 2 = 0 then rightD d else leftD d
/-- The device ring `i` receives from. -/
def bwdD (i : Fin 8) (d : Dev nD) : Dev nD := if i.val % 2 = 0 then leftD d else rightD d

/-- The first column of ring `i`'s tile of its half. -/
abbrev pcol (i : Fin 8) : Nat := 1024 * (i.val / 2)
/-- The first column of ring `i`'s tile of the result. -/
abbrev wcol (i : Fin 8) : Nat := 4096 * (i.val % 2) + 1024 * (i.val / 2)

theorem wInb (i : Fin 8) : ∀ a, (![0, wcol i] : Fin 2 → Nat) a + S512x1024.size a ≤ S512x8192.size a := by
  revert i; decide
theorem pInb (i : Fin 8) : ∀ a, (![0, pcol i] : Fin 2 → Nat) a + S512x1024.size a ≤ S512x4096.size a := by
  revert i; decide

/-- Ring `i`'s tile of the right factor's or of the result's columns. -/
abbrev wR (i : Fin 8) : Rect S512x8192 := Rect.unit (s := S512x8192) ![0, wcol i] S512x1024.size (wInb i)
/-- Ring `i`'s tile of its half of the partial products. -/
abbrev pR (i : Fin 8) : Rect S512x4096 := Rect.unit (s := S512x4096) ![0, pcol i] S512x1024.size (pInb i)

theorem pPacked : ∀ i : Fin 8, (pR i).PackedRows (EltTy.packing .bf16) := by decide

/-- The buffer of partial products ring `i` adds from: one per direction. -/
def pB (i : Fin 8) : Ref sig .tc := if i.val % 2 = 0 then cc0_scratch1 else cc0_scratch2

abbrev prM : Memref sig .tc .vmem S512x4096 .bf16 := Memref.whole cc0_scratch1
abbrev plM : Memref sig .tc .vmem S512x4096 .bf16 := Memref.whole cc0_scratch2
/-- The partial products ring `i` adds from. -/
def pM (i : Fin 8) : Memref sig .tc .vmem S512x4096 .bf16 := if i.val % 2 = 0 then prM else plM

theorem pM_whole (i : Fin 8) : (pM i).IsWhole := by
  unfold pM; split <;> exact Memref.isWhole_whole _

/-- The rows of the left factor of hop `h`'s partial products, per direction. -/
def xOff (i : Fin 8) (d : Dev nD) (h : Fin 7) : Fin 2 → Nat :=
  if i.val % 2 = 0 then k0_off3 d (BitVec.ofNat 32 h.val) else k0_off4 d (BitVec.ofNat 32 h.val)
theorem xOff_inb (i : Fin 8) (d : Dev nD) (h : Fin 7) : ∀ a, xOff i d h a + S512x512.size a ≤ S4096x512.size a := by
  unfold xOff; split
  · exact k0_off3_inb d h
  · exact k0_off4_inb d h
/-- The rows of the left factor a ring starts with, per direction. -/
def xOff0 (i : Fin 8) (d : Dev nD) : Fin 2 → Nat := if i.val % 2 = 0 then k0_off1 d else k0_off2 d
theorem xOff0_inb (i : Fin 8) (d : Dev nD) : ∀ a, xOff0 i d a + S512x512.size a ≤ S4096x512.size a := by
  unfold xOff0; split
  · exact k0_off1_inb d
  · exact k0_off2_inb d

abbrev xR (i : Fin 8) (d : Dev nD) (h : Fin 7) : Rect S4096x512 := Rect.unit (s := S4096x512) (xOff i d h) S512x512.size (xOff_inb i d h)
abbrev xR0 (i : Fin 8) (d : Dev nD) : Rect S4096x512 := Rect.unit (s := S4096x512) (xOff0 i d) S512x512.size (xOff0_inb i d)

/-- The one element of a scale. -/
abbrev s1R : Rect S1 := Rect.unit (s := S1) ![0] S1.size inb_S1_S1_0

/-- The slot hop `h` sends from. -/
abbrev sl (h : ℕ) : Fin 2 := ⟨h % 2, Nat.mod_lt _ (by decide)⟩

/-! ## The steps -/

/-- Start hop `h`'s transfer of ring `i`. -/
def sendP (i : Fin 8) (h : ℕ) (d : Dev nD) (k : P F) : P F :=
  .op (.enqueueDma (cSq i (sl h)) (.remote (Dev.tc (fwdD i d)) (cSq i (sl (h + 1))) (.dma (sendS i (sl h)))) (.dma (recvS i (sl (h + 1))))
    (cSq_words i _) (cSq_words i _) ⟨⟨rfl, Or.inl rfl⟩, trivial⟩) fun _ => k

/-- Ring `i`'s first tile, from the chunk `xc` of the left factor, sent on. -/
def initP (i : Fin 8) (d : Dev nD) (xc : FVec F S512x512 .bf16) (k : P F) : P F :=
  .op (.load wM (wR i).toLoadRect (View.loadsAt_vmem h_S512x1024)) fun w =>
  .op (.load commM (cR i 0).toLoadRect (View.loadsAt_vmem h_S1x1x512x1024)) fun _ =>
  .op (.store commM (cR i 0) (k0_pay11 xc w) Finset.univ
    (View.stores_vmem h_S1x1x512x1024 ((Memref.isWhole_whole cc0_scratch0 : commM.IsWhole).storeExact_slice rfl _ (cPacked i 0)) (fun _ => rfl)) (.inl rfl)) fun _ =>
  sendP i 0 d k

/-- Ring `i`'s tile of the partial products of the chunk `xc`. -/
def tileP (i : Fin 8) (xc : FVec F S512x512 .bf16) (k : P F) : P F :=
  .op (.load wM (wR i).toLoadRect (View.loadsAt_vmem h_S512x1024)) fun w =>
  .op (.load (pM i) (pR i).toLoadRect (View.loadsAt_vmem h_S512x1024)) fun _ =>
  .op (.store (pM i) (pR i) (k0_pay24 xc w) Finset.univ
    (View.stores_vmem h_S512x1024 ((pM_whole i).storeExact_slice rfl _ (pPacked i)) (fun _ => rfl)) (.inl rfl)) fun _ => k

/-- Hop `h`'s partial products in the direction of the rings `i₀`, `i₁`, `i₂`, `i₃`. -/
def dirP (i₀ i₁ i₂ i₃ : Fin 8) (d : Dev nD) (h : Fin 7) (k : P F) : P F :=
  .op (.load xM (xR i₀ d h).toLoadRect (View.loadsAt_vmem h_S512x512)) fun x =>
  tileP i₀ (k0_pay2 x) <| tileP i₁ (k0_pay2 x) <| tileP i₂ (k0_pay2 x) <| tileP i₃ (k0_pay2 x) k

/-- Hop `h`'s partial products. -/
def prefetchP (d : Dev nD) (h : Fin 7) (k : P F) : P F := dirP 0 2 4 6 d h <| dirP 1 3 5 7 d h k

/-- Hop `h` of ring `i`: the sent slot is free again and granted to the device before; the received
    tile and this device's partial product are added and sent on. -/
def hopP (i : Fin 8) (h : ℕ) (d : Dev nD) (k : P F) : P F :=
  .op (.waitDma2 (sendS i (sl h)) (cSq i (sl (h + 1))) (cSq i (sl h)) (cSq_words i _) (cSq_words i _)) fun _ =>
  .op (.semSignal (bwdD i d, .tc) (credS i) ((1 : ℕ) : ℤ)) fun _ =>
  .op (.waitDma2 (recvS i (sl (h + 1))) (cSq i (sl h)) (cSq i (sl (h + 1))) (cSq_words i _) (cSq_words i _)) fun _ =>
  .op (.load commM (cR i (sl (h + 1))).toLoadRect (View.loadsAt_vmem h_S1x1x512x1024)) fun v =>
  .op (.load (pM i) (pR i).toLoadRect (View.loadsAt_vmem h_S512x1024)) fun p =>
  .op (.load commM (cR i (sl (h + 1))).toLoadRect (View.loadsAt_vmem h_S1x1x512x1024)) fun _ =>
  .op (.store commM (cR i (sl (h + 1))) (k0_pay25 v p) Finset.univ
    (View.stores_vmem h_S1x1x512x1024 ((Memref.isWhole_whole cc0_scratch0 : commM.IsWhole).storeExact_slice rfl _ (cPacked i _)) (fun _ => rfl)) (.inl rfl)) fun _ =>
  .op (.semWait (credS i) ((1 : ℕ) : ℤ)) fun _ =>
  sendP i (h + 1) d k

/-- The last hop of ring `i`: the received tile, this device's partial product added, scaled and gated,
    is a tile of the result. -/
def lastP (i : Fin 8) (k : P F) : P F :=
  .op (.waitDma2 (sendS i 0) (cSq i 1) (cSq i 0) (cSq_words i _) (cSq_words i _)) fun _ =>
  .op (.waitDma2 (recvS i 1) (cSq i 0) (cSq i 1) (cSq_words i _) (cSq_words i _)) fun _ =>
  .op (.load commM (cR i 1).toLoadRect (View.loadsAt_vmem h_S1x1x512x1024)) fun v =>
  .op (.load (pM i) (pR i).toLoadRect (View.loadsAt_vmem h_S512x1024)) fun p =>
  .op (.load sxM s1R.toLoadRect (View.loadsAt_rect (View.loads_smem_one rfl numel1_S1))) fun sx =>
  .op (.load swM s1R.toLoadRect (View.loadsAt_rect (View.loads_smem_one rfl numel1_S1))) fun sw =>
  .op (.load oM (wR i).toLoadRect (View.loadsAt_vmem h_S512x1024)) fun _ =>
  .op (.store oM (wR i) (k0_pay162 v p (sx (Shape.Idx.first (numel1_S1.symm ▸ Nat.one_pos))) (sw (Shape.Idx.first (numel1_S1.symm ▸ Nat.one_pos))))
    Finset.univ (View.stores_vmem_bits_univ h_S512x1024 rfl) (.inl rfl)) fun _ => k

/-- A step of every ring in order. -/
def rings (f : Fin 8 → P F → P F) (k : P F) : P F := (List.finRange 8).foldr f k

/-- Hop `h` of every ring, then the next hop's partial products. -/
def roundP (d : Dev nD) (h : Fin 6) (k : P F) : P F :=
  rings (fun i k => hopP i h.val d k) <| prefetchP d h.succ k

/-- The handshake with both neighbours on the semaphore `s`. -/
def shakeP (s : Sem sig) (d : Dev nD) (k : P F) : P F :=
  .op (.semSignal (leftD d, .tc) s ((1 : ℕ) : ℤ)) fun _ =>
  .op (.semSignal (rightD d, .tc) s ((1 : ℕ) : ℤ)) fun _ =>
  .op (.semWait s ((2 : ℕ) : ℤ)) fun _ => k

/-- The whole body. -/
def bodyP : P F :=
  .op .deviceId fun d =>
  shakeP barS d <|
  .op (.load xM (xR0 0 d).toLoadRect (View.loadsAt_vmem h_S512x512)) fun xr =>
  .op (.load xM (xR0 1 d).toLoadRect (View.loadsAt_vmem h_S512x512)) fun xl =>
  rings (fun i k => initP i d (if i.val % 2 = 0 then k0_pay2 xr else k0_pay2 xl) k) <|
  prefetchP d 0 <|
  (List.finRange 6).foldr (fun h k => roundP d h k) <|
  rings (fun i k => lastP i k) <|
  shakeP exitS d <| .ret ⟨⟩

set_option maxRecDepth 100000 in
/-- The printed body is the sequence of the steps. -/
theorem body_eq :
    cc0__body (F := F) sxM (Memref.isWhole_whole _) swM (Memref.isWhole_whole _) xM (Memref.isWhole_whole _) wM (Memref.isWhole_whole _)
      oM (Memref.isWhole_whole _) commM (Memref.isWhole_whole _) prM (Memref.isWhole_whole _) plM (Memref.isWhole_whole _)
      cc0_scratch3 cc0_scratch4 cc0_scratch5 cc0_scoped0 = bodyP := by
  chain_rfl

end Cert.KernelIdeal.Ring
-- ==== Proof.Sched.lean ====
/- The cells of the eight rings' protocol, what each round of a cell is paid and hands over, what each device
   owes its neighbours, and the order in which the waits may happen. -/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the rings' cells. -/
abbrev UB : Type := URounds (GSem nD τ sig) (Fin 6)
/-- The pipeline's rounds beside them. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Neighbours -/

theorem left_right : ∀ c : Dev nD, leftD (rightD c) = c := by decide
theorem right_left : ∀ c : Dev nD, rightD (leftD c) = c := by decide
theorem fwd_bwd (i : Fin 8) (c : Dev nD) : fwdD i (bwdD i c) = c := by
  unfold fwdD bwdD; split
  · exact right_left c
  · exact left_right c
theorem bwd_fwd (i : Fin 8) (c : Dev nD) : bwdD i (fwdD i c) = c := by
  unfold fwdD bwdD; split
  · exact left_right c
  · exact right_left c

/-- The neighbour on the side `b`: the right one for `true`. -/
def nbr (b : Bool) (c : Dev nD) : Dev nD := if b then rightD c else leftD c
/-- The rings that run towards the side `b`. -/
def ringsTo (b : Bool) : Finset (Fin 8) := Finset.univ.filter fun i => decide (i.val % 2 = 0) = b
theorem fwd_of_ringsTo {b : Bool} {i : Fin 8} (h : i ∈ ringsTo b) (c : Dev nD) : fwdD i c = nbr b c := by
  have h' := (Finset.mem_filter.mp h).2
  unfold fwdD nbr
  by_cases hi : i.val % 2 = 0
  · rw [if_pos hi, ← h', decide_eq_true hi]; rfl
  · rw [if_neg hi, ← h', decide_eq_false hi]; rfl
theorem nbr_nbr (b : Bool) (c : Dev nD) : nbr b (nbr (!b) c) = c := by
  cases b
  · exact left_right c
  · exact right_left c

/-! ## Cells -/

/-- The kernel's own semaphores: per ring and slot a receive (`true`) and a send semaphore, per ring a grant, one for the exit. -/
abbrev OK := (Bool × Fin 8 × Fin 2) ⊕ Fin 8 ⊕ Unit
/-- All the protocol's semaphores: the entry's before the own ones. -/
abbrev CK := Unit ⊕ OK

/-- The semaphore of an own kind. -/
def ownSem : OK → SemLoc sig
  | .inl (true, i, s) => .dma (recvS i s)
  | .inl (false, i, s) => .dma (sendS i s)
  | .inr (.inl i) => .reg (credS i)
  | .inr (.inr _) => .reg exitS
/-- The semaphore of a kind. -/
def semOf : CK → SemLoc sig
  | .inl _ => .reg barS
  | .inr k => ownSem k

abbrev kBar : CK := .inl ()
abbrev kRecv (i : Fin 8) (s : Fin 2) : CK := .inr (.inl (true, i, s))
abbrev kSend (i : Fin 8) (s : Fin 2) : CK := .inr (.inl (false, i, s))
abbrev kCred (i : Fin 8) : CK := .inr (.inr (.inl i))
abbrev kExit : CK := .inr (.inr (.inr ()))

theorem send_val : ∀ (i : Fin 8) (s : Fin 2), (sendS i s).val = 5 + (2 * i.val + s.val) := by decide
theorem recv_val : ∀ (i : Fin 8) (s : Fin 2), (recvS i s).val = 21 + (2 * i.val + s.val) := by decide
theorem cred_val : ∀ (i : Fin 8), (credS i).val = i.val := by decide
theorem exit_val : (exitS).val = 9 := by decide
theorem bar_val : (barS).val = 8 := by decide

/-- Distinct kinds name distinct semaphores. -/
theorem semOf_inj : Function.Injective semOf := by
  rintro (_ | ⟨b, i, s⟩ | i | _) (_ | ⟨b', i', s'⟩ | i' | _) h
  all_goals (try cases b) <;> (try cases b') <;> first | rfl | skip
  all_goals simp only [semOf, ownSem] at h
  all_goals first | (injection h with h; have h := congrArg Fin.val h; skip) | cases h
  all_goals simp only [send_val, recv_val, cred_val, exit_val, bar_val] at h
  all_goals first | omega | skip
  all_goals first
    | (obtain rfl : i = i' := Fin.ext (by omega); obtain rfl : s = s' := Fin.ext (by omega); rfl)
    | (obtain rfl : i = i' := Fin.ext (by omega); rfl)

/-- The cell of a kind at a device. -/
abbrev cell (c : Dev nD) (k : CK) : GSem nD τ sig := ((c : Thread nD τ), semOf k)

theorem cell_inj : Function.Injective fun ck : Dev nD × CK => cell ck.1 ck.2 := by
  rintro ⟨c, k⟩ ⟨c', k'⟩ h
  have h₁ : c = c' := congrArg (fun g : GSem nD τ sig => g.1.1) h
  have h₂ : k = k' := semOf_inj (congrArg Prod.snd h)
  rw [h₁, h₂]

/-- The kind of a semaphore of the protocol. -/
def kindOf : SemLoc sig → Option CK := Function.partialInv semOf
theorem kindOf_semOf (k : CK) : kindOf (semOf k) = some k := Function.partialInv_left semOf_inj k

/-! ## Slots -/

/-- Slot `s` of ring `i` on device `c`, holding `V`. -/
def slot (c : Dev nD) (i : Fin 8) (s : Fin 2) (V : Vec F S512x1024 .bf16) : sProp 𝕄 :=
  owns (c : Thread nD τ) (cSq i s) fullShare V
/-- Slot `s` of ring `i` on device `c`, at any contents. -/
def slotE (c : Dev nD) (i : Fin 8) (s : Fin 2) : sProp 𝕄 :=
  iprop(∃ f, (cSq i s).view.loc (c : Thread nD τ) ↦[(cSq i s).view.set]{fullShare} f)

instance slot_storable (c : Dev nD) (i s) (V) : BI.Storable (upEmb : UEmb _ 𝕄) (slot (F := F) c i s V) := by unfold slot; infer_instance
instance slotE_storable (c : Dev nD) (i s) : BI.Storable (upEmb : UEmb _ 𝕄) (slotE (F := F) c i s) := by unfold slotE; infer_instance

/-- A slot's contents may be forgotten. -/
theorem slot_any (c : Dev nD) (i s) (V : Vec F S512x1024 .bf16) : slot c i s V ⊢ (slotE c i s : sProp 𝕄) := by
  unfold slot slotE owns
  iintro ⟨%f, -, H⟩; iexists f; iexact H

/-- The credit of one transfer. -/
abbrev N : ℕ := (cSq 0 0).view.dmaCredit
theorem N_pos : 0 < N := View.dmaCredit_pos _ (by decide)
theorem N_eq (i : Fin 8) (s : Fin 2) : (cSq i s).view.dmaCredit = N := rfl

/-- A device's ghost cell: its count of the grants it has issued, in order. -/
abbrev gcell (c : Dev nD) : GSem nD τ sig := ((c : Thread nD τ), .dma (⟨0, by decide⟩ : DmaSem sig))
theorem gcell_inj : Function.Injective gcell := fun c c' h => congrArg (fun g : GSem nD τ sig => g.1.1) h
theorem semOf_ne_ghost (k : CK) : semOf k ≠ .dma (⟨0, by decide⟩ : DmaSem sig) := by
  rcases k with _ | ⟨_ | _, i, s⟩ | i | _ <;> intro h <;> simp only [semOf, ownSem] at h
  · cases h
  · injection h with h; have h := congrArg Fin.val h; rw [send_val] at h; simp only at h; omega
  · injection h with h; have h := congrArg Fin.val h; rw [recv_val] at h; simp only at h; omega
  · cases h
  · cases h

/-! ## The schedule -/

/-- The hop that round `r` of the send (`false`) or receive (`true`) cell of slot `s` serves. -/
def hopOf (b : Bool) (s : Fin 2) (r : ℕ) : ℕ := 2 * r + (if b then 1 - s.val else s.val)

/-- The duties of a round: both neighbours at the handshakes, the six grants of a ring, the one transfer elsewhere. -/
def dutK : CK → ℕ → Finset (Fin 6)
  | .inl _, r => if r = 0 then {0, 1} else ∅
  | .inr (.inl (b, _, s)), r => if hopOf b s r ≤ 6 then {0} else ∅
  | .inr (.inr (.inl _)), r => if r = 0 then Finset.univ else ∅
  | .inr (.inr (.inr _)), r => if r = 0 then {0, 1} else ∅
/-- The units a duty contributes. -/
def amtK : CK → ℕ
  | .inr (.inl _) => N
  | _ => 1

variable (S : Fin 8 → Dev nD → ℕ → Vec F S512x1024 .bf16)

/-- What a duty of a round hands the owner `c`. -/
def payK (c : Dev nD) : CK → ℕ → Fin 6 → sProp 𝕄
  | .inl _, _, d => bigSep (ringsTo (decide (d = 1))) fun i => slotE (nbr (decide (d = 1)) c) i 1
  | .inr (.inl (true, i, s)), r, _ => slot c i s (S i (bwdD i c) (hopOf true s r))
  | .inr (.inl (false, i, s)), _, _ => slotE c i s
  | .inr (.inr (.inl i)), _, d => reached ER (gcell (fwdD i c)) (8 * d.val + i.val + 1)
  | .inr (.inr (.inr _)), _, _ => iprop(emp)

/-- The schedule of the protocol: the sums sent are `S`. -/
def Rd : Rounds.Schedule (GSem nD τ sig) (Fin 6) 𝕄 where
  duties g r := (kindOf g.2).elim ∅ fun k => dutK k r
  unitless _ := False
  amount g _ _ := (kindOf g.2).elim 1 amtK
  payload g r d := (kindOf g.2).elim iprop(emp) fun k => payK S g.1.1 k r d
  amount_pos g _ _ _ := by
    cases kindOf g.2 with
    | none => exact Nat.one_pos
    | some k => rcases k with _ | _ | _ | _ <;> first | exact N_pos | exact Nat.one_pos

instance payK_storable (c : Dev nD) (k : CK) (r : ℕ) (d : Fin 6) : BI.Storable (upEmb : UEmb _ 𝕄) (payK (F := F) S c k r d) := by
  rcases k with _ | ⟨_ | _, i, s⟩ | i | _ <;> unfold payK <;> infer_instance
instance Rd_payload_storable (g : GSem nD τ sig) (r : ℕ) (d : Fin 6) : BI.Storable (upEmb : UEmb _ 𝕄) ((Rd (F := F) S).payload g r d) := by
  show BI.Storable upEmb ((kindOf g.2).elim iprop(emp) fun k => payK S g.1.1 k r d)
  cases kindOf g.2 with
  | none => show BI.Storable upEmb iprop(emp); infer_instance
  | some k => show BI.Storable upEmb (payK S g.1.1 k r d); infer_instance

theorem duties_cell (c : Dev nD) (k : CK) (r : ℕ) : (Rd (F := F) S).duties (cell c k) r = dutK k r := by
  show (kindOf (semOf k)).elim ∅ (fun k => dutK k r) = _
  rw [kindOf_semOf]; rfl
theorem amount_cell (c : Dev nD) (k : CK) (r : ℕ) (d : Fin 6) : (Rd (F := F) S).amount (cell c k) r d = amtK k := by
  show (kindOf (semOf k)).elim 1 amtK = _
  rw [kindOf_semOf]; rfl
theorem payload_cell (c : Dev nD) (k : CK) (r : ℕ) (d : Fin 6) : (Rd (F := F) S).payload (cell c k) r d = payK S c k r d := by
  show (kindOf (semOf k)).elim iprop(emp) (fun k => payK S c k r d) = _
  rw [kindOf_semOf]; rfl
theorem expect_cell (c : Dev nD) (k : CK) (r : ℕ) : (Rd (F := F) S).expect (cell c k) r = (dutK k r).card * amtK k := by
  unfold Schedule.expect Schedule.amountOf
  rw [duties_cell, Finset.sum_congr rfl fun d _ => amount_cell S c k r d, Finset.sum_const, smul_eq_mul]
theorem rest_cell (c : Dev nD) (k : CK) (r : ℕ) :
    bigSep ((Rd (F := F) S).duties (cell c k) r \ ∅) (fun d => (Rd (F := F) S).payload (cell c k) r d) = bigSep (dutK k r) fun d => payK S c k r d := by
  rw [Finset.sdiff_empty, duties_cell]
  exact bigSep_congr fun d _ => payload_cell S c k r d

/-- The round of the cell of slot `h mod 2` that serves hop `h`'s departure, -/
theorem hop_send (h : ℕ) : hopOf false (sl h) (h / 2) = h := by unfold hopOf sl; simp; omega
/-- and the round of the cell of the other slot that serves its arrival. -/
theorem hop_recv (h : ℕ) : hopOf true (sl (h + 1)) (h / 2) = h := by unfold hopOf sl; simp; omega

theorem dut_send (i : Fin 8) {h : ℕ} (hh : h ≤ 6) : dutK (kSend i (sl h)) (h / 2) = {0} := if_pos (by rw [hop_send]; exact hh)
theorem dut_recv (i : Fin 8) {h : ℕ} (hh : h ≤ 6) : dutK (kRecv i (sl (h + 1))) (h / 2) = {0} := if_pos (by rw [hop_recv]; exact hh)

/-! ## Grants

A device's grant of hop `h` of ring `i` puts the slot hop `h` left into an invariant of the device, where the
previous device of the ring takes it; the grants are issued in order, so whichever of them has arrived,
as many have been issued as have arrived. -/

/-- What the grant of hop `p.1` of ring `p.2` by device `c` hands over. -/
def depo (c : Dev nD) (p : Fin 6 × Fin 8) : sProp 𝕄 :=
  iprop(slotE c p.2 (sl p.1.val) ∗ reached ER (cell c (kRecv p.2 (sl p.1.val))) ((p.1.val + 1) / 2))
/-- One grant's place in the invariant: nothing before it is issued, then the slot, then the taker's token. -/
def place (c : Dev nD) (n : ℕ) (p : Fin 6 × Fin 8) : sProp 𝕄 :=
  if 8 * p.1.val + p.2.val < n then iprop(depo c p ∨ dutyTok ER (gcell c) (8 * p.1.val + p.2.val) 0) else iprop(emp)
/-- The invariant of device `c`'s grants. -/
def grants (c : Dev nD) : sProp 𝕄 :=
  iprop(∃ n, roundAuth ER (gcell c) n ∅ 0 ∗ bigSep Finset.univ (place c n))

instance depo_storable (c : Dev nD) (p) : BI.Storable (upEmb : UEmb _ 𝕄) (depo (F := F) c p) := by unfold depo; infer_instance
instance place_storable (c : Dev nD) (n p) : BI.Storable (upEmb : UEmb _ 𝕄) (place (F := F) c n p) := by
  unfold place; split <;> infer_instance
instance grants_storable (c : Dev nD) : BI.Storable (upEmb : UEmb _ 𝕄) (grants (F := F) c) := by unfold grants; infer_instance

theorem place_congr (c : Dev nD) {n n' : ℕ} {p : Fin 6 × Fin 8} (h : 8 * p.1.val + p.2.val < n ↔ 8 * p.1.val + p.2.val < n') :
    place (F := F) c n p = place c n' p := by
  unfold place
  by_cases hn : 8 * p.1.val + p.2.val < n
  · rw [if_pos hn, if_pos (h.mp hn)]
  · rw [if_neg hn, if_neg fun h' => hn (h.mpr h')]

/-- No grant issued yet, the invariant holds. -/
theorem grants_intro (c : Dev nD) : roundAuth ER (gcell c) 0 ∅ 0 ⊢ (grants c : sProp 𝕄) := by
  unfold grants
  iintro H; iexists 0
  isplitl [H]; · iexact H
  have h0 : (bigSep Finset.univ (place (F := F) c 0)) = BI.emp := by
    rw [show (place (F := F) c 0) = fun _ => BI.emp from funext fun p => if_neg (Nat.not_lt_zero _), BI.bigSep_emp_const]
  iapply (Entails.of_eq h0.symm)
  iempintro

/-- Issuing the next grant. -/
theorem grant_issue (c : Dev nD) (κ : ℕ) (p : Fin 6 × Fin 8) :
    iprop(inv κ (grants c) ∗ atPos ER (gcell c) (8 * p.1.val + p.2.val) ∅ 0 ∗ depo c p)
      ⊢ (iprop(|={Set.univ}=> (atPos ER (gcell c) (8 * p.1.val + p.2.val + 1) ∅ 0 ∗ reached ER (gcell c) (8 * p.1.val + p.2.val + 1))) : sProp 𝕄) := by
  iintro ⟨Hi, Hat, Hd⟩
  imod (inv_acc (Set.mem_univ κ)) $$ Hi with ⟨Hb, Hclose⟩
  unfold grants
  icases Hb with ⟨%n, Hau, Hpl⟩
  ihave H := (persistent_entails_right (roundAuth_atPos_agree ER)) $$ [Hau Hat]
  · isplitl [Hau] <;> iassumption
  icases H with ⟨%hn, Hau, Hat⟩
  obtain ⟨hn, -, -⟩ := hn
  subst hn
  imod (roundAuth_atPos_move ER (8 * p.1.val + p.2.val + 1) ∅ 0 (Nat.le_succ _)) $$ [Hau Hat] with ⟨Hau, Hat⟩
  · isplitl [Hau] <;> iassumption
  imod (roundAuth_witness ER) $$ Hau with ⟨Hau, Hr⟩
  ihave Hpl := (Entails.of_eq (BI.bigSep_univ_at (place (F := F) c (8 * p.1.val + p.2.val)) p)) $$ Hpl
  icases Hpl with ⟨-, Hpl⟩
  ihave Hc := Hclose $$ [Hau Hpl Hd]
  · iexists (8 * p.1.val + p.2.val + 1)
    isplitl [Hau]; · iexact Hau
    iapply (Entails.of_eq (BI.bigSep_univ_at (place (F := F) c (8 * p.1.val + p.2.val + 1)) p).symm)
    isplitl [Hd]
    · iapply (Entails.of_eq (show iprop(depo (F := F) c p ∨ dutyTok ER (gcell c) (8 * p.1.val + p.2.val) 0) = place c (8 * p.1.val + p.2.val + 1) p from
        (if_pos (Nat.lt_succ_self _)).symm))
      ileft; iexact Hd
    · iapply (Entails.of_eq (bigSep_congr (fun p' hp' => place_congr (F := F) c (n := 8 * p.1.val + p.2.val) (n' := 8 * p.1.val + p.2.val + 1) (by
        have hne := (Finset.mem_erase.mp hp').1
        have h1 := p.2.isLt; have h2 := p'.2.isLt
        have h3 : ¬ (8 * p'.1.val + p'.2.val = 8 * p.1.val + p.2.val) := fun h => hne (Prod.ext (Fin.ext (by omega)) (Fin.ext (by omega)))
        omega))))
      iexact Hpl
  imod Hc
  imodintro
  isplitl [Hat] <;> iassumption

/-- Taking what an issued grant handed over. -/
theorem grant_take (c : Dev nD) (κ : ℕ) (p : Fin 6 × Fin 8) :
    iprop(inv κ (grants c) ∗ reached ER (gcell c) (8 * p.1.val + p.2.val + 1) ∗ dutyTok ER (gcell c) (8 * p.1.val + p.2.val) 0)
      ⊢ (iprop(|={Set.univ}=> depo c p) : sProp 𝕄) := by
  iintro ⟨Hi, Hr, Ht⟩
  imod (inv_acc (Set.mem_univ κ)) $$ Hi with ⟨Hb, Hclose⟩
  unfold grants
  icases Hb with ⟨%n, Hau, Hpl⟩
  ihave H := (persistent_entails_right (roundAuth_reached_le ER)) $$ [Hau Hr]
  · isplitl [Hau] <;> iassumption
  icases H with ⟨%hn, Hau, -⟩
  ihave Hpl := (Entails.of_eq (BI.bigSep_univ_at (place (F := F) c n) p)) $$ Hpl
  icases Hpl with ⟨Hp, Hpl⟩
  have hp : place (F := F) c n p = iprop(depo c p ∨ dutyTok ER (gcell c) (8 * p.1.val + p.2.val) 0) := if_pos hn
  ihave Hp := (Entails.of_eq hp) $$ Hp
  icases Hp with (Hd | Ht')
  · ihave Hc := Hclose $$ [Hau Hpl Ht]
    · iexists n
      isplitl [Hau]; · iexact Hau
      iapply (Entails.of_eq (BI.bigSep_univ_at (place (F := F) c n) p).symm)
      isplitl [Ht]
      · iapply (Entails.of_eq hp.symm); iright; iexact Ht
      iexact Hpl
    imod Hc
    imodintro
    iexact Hd
  · iexfalso
    iapply (dutyTok_dutyTok_false ER)
    isplitl [Ht] <;> iassumption

/-! ## Owed units and levels -/

/-- The credit owed for hop `h`'s transfer of ring `i`. -/
def tR (h : ℕ) (i : Fin 8) (c : Dev nD) : CellTallies nD τ sig ℕ := tallyAt (cell (fwdD i c) (kRecv i (sl (h + 1)))) (h / 2) N
/-- The grant owed to the previous device of ring `i` after hop `h`. -/
def tC (h : ℕ) (i : Fin 8) (c : Dev nD) : CellTallies nD τ sig ℕ := tallyAt (cell (bwdD i c) (kCred i)) h 1
/-- The units owed at a handshake. -/
def tS (k : CK) (c : Dev nD) : CellTallies nD τ sig ℕ := tallyAt (cell (rightD c) k) 0 1 + tallyAt (cell (leftD c) k) 0 1
/-- What the step of hop `h` of ring `i` pays. -/
def stepO (p : Fin 6 × Fin 8) (c : Dev nD) : CellTallies nD τ sig ℕ := tR (p.1.val + 1) p.2 c + tC p.1.val p.2 c

/-- The steps from the `T`-th on. -/
def stepsFrom (T : ℕ) : Finset (Fin 6 × Fin 8) := Finset.univ.filter fun p => T ≤ 8 * p.1.val + p.2.val
/-- The rings from the `n`-th on. -/
def ringsFrom (n : ℕ) : Finset (Fin 8) := Finset.univ.filter fun i => n ≤ i.val

/-- What a device owes before the `T`-th of the 48 granted steps. -/
def rem (c : Dev nD) (T : ℕ) : CellTallies nD τ sig ℕ := tS kExit c + ∑ p ∈ stepsFrom T, stepO p c
/-- What a device owes before its `n`-th first transfer. -/
def remI (c : Dev nD) (n : ℕ) : CellTallies nD τ sig ℕ := rem c 0 + ∑ i ∈ ringsFrom n, tR 0 i c
/-- What a device owes at launch. -/
def O₀ (c : Dev nD) : CellTallies nD τ sig ℕ := remI c 0 + tS kBar c

theorem rem_step (c : Dev nD) (h : Fin 6) (i : Fin 8) : rem c (8 * h.val + i.val) = rem c (8 * h.val + i.val + 1) + tR (h.val + 1) i c + tC h.val i c := by
  have hs : stepsFrom (8 * h.val + i.val) = insert (h, i) (stepsFrom (8 * h.val + i.val + 1)) := by
    ext ⟨h', i'⟩
    simp only [stepsFrom, Finset.mem_filter, Finset.mem_univ, _root_.true_and, Finset.mem_insert, Prod.mk.injEq, Fin.ext_iff]
    have := i.isLt; have := i'.isLt
    omega
  have hn : (h, i) ∉ stepsFrom (8 * h.val + i.val + 1) := by simp [stepsFrom]
  unfold rem
  rw [hs, Finset.sum_insert hn, stepO, add_comm (_ + _) (Finset.sum _ _), ← add_assoc, ← add_assoc]
theorem rem_end (c : Dev nD) : rem c 48 = tS kExit c := by
  have hs : stepsFrom 48 = ∅ := by
    ext ⟨h', i'⟩
    simp only [stepsFrom, Finset.mem_filter, Finset.mem_univ, _root_.true_and, Finset.notMem_empty, iff_false]
    have := i'.isLt; have := h'.isLt
    omega
  unfold rem; rw [hs, Finset.sum_empty, add_zero]
theorem remI_step (c : Dev nD) (i : Fin 8) : remI c i.val = remI c (i.val + 1) + tR 0 i c := by
  have hs : ringsFrom i.val = insert i (ringsFrom (i.val + 1)) := by
    ext i'
    simp only [ringsFrom, Finset.mem_filter, Finset.mem_univ, _root_.true_and, Finset.mem_insert, Fin.ext_iff]
    omega
  have hn : i ∉ ringsFrom (i.val + 1) := by simp [ringsFrom]
  unfold remI
  rw [hs, Finset.sum_insert hn, add_comm (tR 0 i c), ← add_assoc]
theorem remI_end (c : Dev nD) : remI c 8 = rem c 0 := by
  have hs : ringsFrom 8 = ∅ := by
    ext i'
    simp only [ringsFrom, Finset.mem_filter, Finset.mem_univ, _root_.true_and, Finset.notMem_empty, iff_false]
    have := i'.isLt
    omega
  unfold remI; rw [hs, Finset.sum_empty, add_zero]

/-- The level of a round of a kind. -/
def lvK : CK → ℕ → ℕ
  | .inl _, _ => 1
  | .inr (.inl (true, i, s)), r => 2 * (8 * hopOf true s r + i.val) + 2
  | .inr (.inl (false, _, _)), _ => 0
  | .inr (.inr (.inl i)), r => 2 * (8 * r + i.val) + 17
  | .inr (.inr (.inr _)), _ => 1000
/-- The level of a round of a cell. -/
def lv (g : GSem nD τ sig) (r : ℕ) : ℕ := (kindOf g.2).elim 0 fun k => lvK k r
/-- The rounds a cell may be waited at. -/
def L (g : GSem nD τ sig) : Finset ℕ := if g.1.2 = .tc then Finset.range 6 else ∅

theorem L_of_ne (g : GSem nD τ sig) (h : g.1.2 ≠ .tc) : L g = ∅ := if_neg h
theorem L_tc (c : Dev nD) (sm : SemLoc sig) : L ((c : Thread nD τ), sm) = Finset.range 6 := if_pos rfl
theorem lv_cell (c : Dev nD) (k : CK) (r : ℕ) : lv (cell c k) r = lvK k r := by
  show (kindOf (semOf k)).elim 0 (fun k => lvK k r) = _
  rw [kindOf_semOf]; rfl

/-- A tally lies at waitable rounds of levels from `n` on. -/
def Above (O : CellTallies nD τ sig ℕ) (n : ℕ) : Prop := ∀ g r, 0 < O g r → r ∈ L g ∧ n ≤ lv g r

theorem Above.add {O O' : CellTallies nD τ sig ℕ} {n : ℕ} (h : Above O n) (h' : Above O' n) : Above (O + O') n :=
  fun g r hp => (Pipeline.add_pos_cases hp).elim (h g r) (h' g r)
theorem Above.sum {α : Type} {s : Finset α} {D : α → CellTallies nD τ sig ℕ} {n : ℕ} (h : ∀ a ∈ s, Above (D a) n) : Above (∑ a ∈ s, D a) n :=
  fun g r hp => by obtain ⟨a, ha, hp⟩ := Pipeline.sum_pos_exists hp; exact h a ha g r hp
theorem Above.mono {O : CellTallies nD τ sig ℕ} {n n' : ℕ} (h : Above O n) (hn : n' ≤ n) : Above O n' :=
  fun g r hp => ⟨(h g r hp).1, hn.trans (h g r hp).2⟩
theorem above_tally (c : Dev nD) (k : CK) {r n u : ℕ} (hr : r < 6) (hn : n ≤ lvK k r) : Above (tallyAt (cell c k) r u) n := fun g i hp => by
  obtain ⟨rfl, rfl⟩ := Pipeline.tallyAt_pos hp
  exact ⟨by rw [L_tc]; exact Finset.mem_range.mpr hr, by rw [lv_cell]; exact hn⟩
theorem above_zero (n : ℕ) : Above 0 n := fun g r hp => absurd hp (Nat.lt_irrefl 0)

theorem lv_recv (i : Fin 8) (h : ℕ) : lvK (kRecv i (sl (h + 1))) (h / 2) = 2 * (8 * h + i.val) + 2 := by
  show 2 * (8 * hopOf true (sl (h + 1)) (h / 2) + i.val) + 2 = _
  rw [hop_recv]
theorem above_tR (c : Dev nD) (i : Fin 8) {h n : ℕ} (hh : h ≤ 6) (hn : n ≤ 2 * (8 * h + i.val) + 2) : Above (tR h i c) n :=
  above_tally _ _ (by omega) (by rw [lv_recv]; exact hn)
theorem above_tC (c : Dev nD) (i : Fin 8) {h n : ℕ} (hh : h ≤ 5) (hn : n ≤ 2 * (8 * h + i.val) + 17) : Above (tC h i c) n :=
  above_tally _ _ (by omega) hn
theorem above_exit (c : Dev nD) : Above (tS kExit c) 1000 := (above_tally _ _ (by decide) le_rfl).add (above_tally _ _ (by decide) le_rfl)
theorem above_rem (c : Dev nD) {T n : ℕ} (hn : n ≤ 2 * T + 17) (hT : n ≤ 1000) : Above (rem c T) n := by
  refine ((above_exit c).mono hT).add (Above.sum fun p hp => ?_)
  have hT := (Finset.mem_filter.mp hp).2
  have := p.1.isLt
  exact (above_tR c _ (by omega) (by omega)).add (above_tC c _ (by omega) (by omega))
theorem above_remI (c : Dev nD) (k : ℕ) : Above (remI c k) 2 :=
  (above_rem c (by omega) (by omega)).add (Above.sum fun i _ => above_tR c i (by omega) (by omega))
theorem above_O₀ (c : Dev nD) : Above (O₀ c) 1 :=
  ((above_remI c 0).mono (by omega)).add ((above_tally _ _ (by decide) le_rfl).add (above_tally _ _ (by decide) le_rfl))

/-- A wait below everything owed may happen. -/
theorem mayWait_cell (c : Dev nD) (k : CK) {r n : ℕ} {O : CellTallies nD τ sig ℕ} (hr : r < 6) (hO : Above O n) (hn : lvK k r < n) :
    (levAts L lv : sProp 𝕄) ⊢ MayWait (c : Thread nD τ) (semOf k) r O :=
  Pipeline.mayWait_of_levAts (by rw [L_tc]; exact Finset.mem_range.mpr hr) fun g i hp =>
    ⟨(hO g i hp).1, by
      have : lv ((c : Thread nD τ), semOf k) r = lvK k r := lv_cell c k r
      rw [this]; exact lt_of_lt_of_le hn (hO g i hp).2⟩

end Cert.KernelIdeal.Ring
-- ==== Proof.Mem.lean ====
/- The memory steps of the kernel: a tile of a buffer, a slot of the communication buffer and a whole
   read-only buffer, each with its load and its store. -/
module

public import proofs.«01_k».proof.Proof.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The program `p` run by device `c` ends in `Q`. -/
abbrev wpR (c : Dev nD) (p : P F) (Q : PUnit → sProp 𝕄) : sProp 𝕄 :=
  wp frame (wpE (defs₀ (F := F)) 𝒱₀ (c : Thread nD τ) none) Set.univ p Q

section Tile

variable {cs : CoreSpace} {s : Shape} {e : EltTy}

/-- The elements under the rectangle `r` of a buffer, reading `V`. -/
def tile (c : Dev nD) (m : Memref sig .tc cs s e) (r : Rect s) (V : r.shape.Idx → Elt F e) : sProp 𝕄 :=
  iprop(∃ f : Buf (Elt F) (m.view.loc (c : Thread nD τ)), ⌜m.view.readAt (Elt F) r.toLoadRect f = V⌝ ∗ (m.view.loc (c : Thread nD τ) ↦[m.view.setOn r.set]{fullShare} f))

/-- A load at the tile's rectangle reads its contents. -/
theorem tile_load (c : Dev nD) (m : Memref sig .tc cs s e) (r : Rect s) (V : r.shape.Idx → Elt F e) {hl : m.view.LoadsAt r.toLoadRect}
    {k : (r.toLoadRect.shape.Idx → Elt F e) → P F} {Q : PUnit → sProp 𝕄} :
    tile c m r V ⊢ iprop((tile c m r V -∗ wpR c (k V) Q) -∗ wpR c (.op (.load m r.toLoadRect hl) k) Q) := by
  unfold tile
  iintro ⟨%f, %hf, H⟩ Hk
  iapply (wp_load 𝒱₀ (c : Thread nD τ) none Set.univ (m := m) (r := r.toLoadRect) (S := m.view.setOn r.set) (f := f) (Finset.Subset.refl _)) $$ H
  iintro H
  rw [hf]
  iapply Hk
  iexists f
  isplitr; · ipureintro; exact hf
  iexact H

/-- A store at the tile's rectangle replaces its contents. -/
theorem tile_store (c : Dev nD) (m : Memref sig .tc cs s e) (r : Rect s) (V w : r.shape.Idx → Elt F e) {hx : (m.access r).Stores Finset.univ}
    {hm : (Finset.univ : Finset r.shape.Idx) = Finset.univ ∨ ∀ a, r.stride a = 1} {k : PUnit → P F} {Q : PUnit → sProp 𝕄} :
    tile c m r V ⊢ iprop((tile c m r w -∗ wpR c (k ⟨⟩) Q) -∗ wpR c (.op (.store m r w Finset.univ hx hm) k) Q) := by
  unfold tile
  iintro ⟨%f, %hf, H⟩ Hk
  iapply (wp_store 𝒱₀ (c : Thread nD τ) none Set.univ (m := m) (r := r) (w := w) (Mk := Finset.univ) (S := m.view.setOn r.set) (f := f)
    (by rw [View.setOn_univ, View.set_slice]; exact Finset.Subset.refl _)) $$ H
  iintro H
  iapply Hk
  iexists ((m.access r).write (Elt F) f w Finset.univ)
  isplitr; · ipureintro; exact View.read_write_univ (v := m.access r) f w
  iexact H

end Tile

/-- A load from a whole buffer reads the rectangle of its contents. -/
theorem buf_load (c : Dev nD) {cs : CoreSpace} {s : Shape} {e : EltTy} (m : Memref sig .tc cs s e) (r : LoadRect s) {hl : m.view.LoadsAt r}
    (f : Buf (Elt F) (m.view.loc (c : Thread nD τ))) {k : (r.shape.Idx → Elt F e) → P F} {Q : PUnit → sProp 𝕄} :
    (m.view.loc (c : Thread nD τ) ↦{fullShare} f)
      ⊢ iprop(((m.view.loc (c : Thread nD τ) ↦{fullShare} f) -∗ wpR c (k (m.view.readAt (Elt F) r f)) Q) -∗ wpR c (.op (.load m r hl) k) Q) :=
  wp_load 𝒱₀ (c : Thread nD τ) none Set.univ (m := m) (r := r) (S := Finset.univ) (f := f) (Finset.subset_univ _)

/-! ## Slots -/

/-- A slot's elements are those under its rectangle. -/
theorem slot_set (i : Fin 8) (s : Fin 2) : (cSq i s).view.set = commM.view.setOn (cR i s).set := by
  rw [Memref.set_view_squeeze]; exact View.set_slice _ _

/-- A slot reads the rectangle's contents as a matrix. -/
theorem slot_read (i : Fin 8) (s : Fin 2) (f : commM.view.ty.Contents (Elt F)) :
    (cSq i s).view.read (Elt F) f
      = shapeCast S512x1024 (commM.view.readAt (Elt F) (cR i s).toLoadRect f) squeezes_S1x1x512x1024_S512x1024.numel_eq :=
  rfl

/-- A load from a slot reads contents whose matrix is the slot's. -/
theorem slot_load (c : Dev nD) (i : Fin 8) (s : Fin 2) (V : Vec F S512x1024 .bf16) {hl : commM.view.LoadsAt (cR i s).toLoadRect}
    {k : (((cR i s).toLoadRect).shape.Idx → Elt F .bf16) → P F} {Q : PUnit → sProp 𝕄} :
    slot c i s V ⊢ iprop((∀ v, ⌜shapeCast S512x1024 v squeezes_S1x1x512x1024_S512x1024.numel_eq = V⌝ -∗ slot c i s V -∗ wpR c (k v) Q)
      -∗ wpR c (.op (.load commM (cR i s).toLoadRect hl) k) Q) := by
  unfold slot owns
  iintro ⟨%f, %hf, H⟩ Hk
  iapply (wp_load 𝒱₀ (c : Thread nD τ) none Set.univ (m := commM) (r := (cR i s).toLoadRect) (S := (cSq i s).view.set) (f := f)
    (by rw [slot_set])) $$ H
  iintro H
  ispecialize Hk $$ %(commM.view.readAt (Elt F) (cR i s).toLoadRect f) %((slot_read i s f).symm.trans hf)
  iapply Hk
  iexists f
  isplitr; · ipureintro; exact hf
  iexact H

/-- A load from a slot at any contents. -/
theorem slotE_load (c : Dev nD) (i : Fin 8) (s : Fin 2) {hl : commM.view.LoadsAt (cR i s).toLoadRect}
    {k : (((cR i s).toLoadRect).shape.Idx → Elt F .bf16) → P F} {Q : PUnit → sProp 𝕄} :
    slotE c i s ⊢ iprop((∀ v, slotE c i s -∗ wpR c (k v) Q) -∗ wpR c (.op (.load commM (cR i s).toLoadRect hl) k) Q) := by
  unfold slotE
  iintro ⟨%f, H⟩ Hk
  iapply (wp_load 𝒱₀ (c : Thread nD τ) none Set.univ (m := commM) (r := (cR i s).toLoadRect) (S := (cSq i s).view.set) (f := f)
    (by rw [slot_set])) $$ H
  iintro H
  ispecialize Hk $$ %(commM.view.readAt (Elt F) (cR i s).toLoadRect f)
  iapply Hk
  iexists f
  iexact H

/-- A store to a slot makes it hold the stored value as a matrix. -/
theorem slot_store (c : Dev nD) (i : Fin 8) (s : Fin 2) (w : Vec F S1x1x512x1024 .bf16) {hx : (commM.access (cR i s)).Stores Finset.univ}
    {hm : (Finset.univ : Finset (cR i s).shape.Idx) = Finset.univ ∨ ∀ a, (cR i s).stride a = 1} {k : PUnit → P F} {Q : PUnit → sProp 𝕄} :
    slotE c i s ⊢ iprop((slot c i s (shapeCast S512x1024 w squeezes_S1x1x512x1024_S512x1024.numel_eq) -∗ wpR c (k ⟨⟩) Q)
      -∗ wpR c (.op (.store commM (cR i s) w Finset.univ hx hm) k) Q) := by
  unfold slot slotE owns
  iintro ⟨%f, H⟩ Hk
  iapply (wp_store 𝒱₀ (c : Thread nD τ) none Set.univ (m := commM) (r := cR i s) (w := w) (Mk := Finset.univ) (S := (cSq i s).view.set) (f := f)
    (by rw [slot_set, View.setOn_univ, View.set_slice]; exact Finset.Subset.refl _)) $$ H
  iintro H
  iapply Hk
  iexists ((commM.access (cR i s)).write (Elt F) f w Finset.univ)
  isplitr
  · ipureintro
    rw [slot_read]
    exact congrArg (fun v => shapeCast S512x1024 v squeezes_S1x1x512x1024_S512x1024.numel_eq) (View.read_write_univ (v := commM.access (cR i s)) f w)
  iexact H

end Cert.KernelIdeal.Ring
-- ==== Proof.Steps.lean ====
/- The steps of the kernel as rules: starting a transfer, a tile of partial products, a hop of a ring,
   its last hop and the two handshakes, each for any device and any ring. -/
module

public import proofs.«01_k».proof.Proof.Mem

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (S : Fin 8 → Dev nD → ℕ → Vec F S512x1024 .bf16)

/-- One conjunct of many. -/
theorem all_at {I : Type} {s : Finset I} {i : I} {Φ : I → sProp 𝕄} (hi : i ∈ s) : bigSep s Φ ⊢ Φ i := by
  classical
  exact BI.bigSep_elim hi

/-! ## What every device knows -/

/-- The invariants of all cells and of all grants, the levels, and that every cell is at its start. -/
def ctx (K : Dev nD × CK → ℕ) (κ : Dev nD → ℕ) : sProp 𝕄 :=
  iprop((bigSep Finset.univ fun p : Dev nD × CK => cellInv ER (Rd S) (K p) (cell p.1 p.2))
    ∗ (bigSep Finset.univ fun c : Dev nD => inv (κ c) (grants c)) ∗ levAts L lv
    ∗ (bigSep Finset.univ fun p : Dev nD × CK => reached ER (cell p.1 p.2) 0))

instance ctx_persistent (K : Dev nD × CK → ℕ) (κ : Dev nD → ℕ) : BI.Persistent (ctx (F := F) S K κ) := by unfold ctx; infer_instance

variable {S} {K : Dev nD × CK → ℕ} {κ : Dev nD → ℕ}

theorem ctx_cell (c : Dev nD) (k : CK) : ctx (F := F) S K κ ⊢ cellInv ER (Rd S) (K (c, k)) (cell c k) := by
  classical
  unfold ctx
  iintro ⟨#H, -, -, -⟩
  iapply (all_at (Φ := fun p : Dev nD × CK => cellInv ER (Rd (F := F) S) (K p) (cell p.1 p.2)) (Finset.mem_univ (c, k)))
  iexact H
theorem ctx_grants (c : Dev nD) : ctx (F := F) S K κ ⊢ inv (κ c) (grants c) := by
  classical
  unfold ctx
  iintro ⟨-, #H, -, -⟩
  iapply (all_at (Φ := fun c : Dev nD => inv (κ c) (grants (F := F) c)) (Finset.mem_univ c))
  iexact H
theorem ctx_lev : ctx (F := F) S K κ ⊢ levAts L lv := by
  unfold ctx
  iintro ⟨-, -, #H, -⟩
  iexact H
theorem ctx_reached (c : Dev nD) (k : CK) : ctx (F := F) S K κ ⊢ reached ER (cell c k) 0 := by
  classical
  unfold ctx
  iintro ⟨-, -, -, #H⟩
  iapply (all_at (Φ := fun p : Dev nD × CK => (reached ER (cell p.1 p.2) 0 : sProp 𝕄)) (Finset.mem_univ (c, k)))
  iexact H

/-- What a device owes, whatever it has waited for. -/
def ow (c : Dev nD) (O : CellTallies nD τ sig ℕ) : sProp 𝕄 := iprop(∃ W, owes (c : Thread nD τ) O W)

theorem ow_open (c : Dev nD) (O : CellTallies nD τ sig ℕ) : (ow c O : sProp 𝕄) ⊢ iprop(∃ W, owes (c : Thread nD τ) O W) := by
  unfold ow; exact .refl
theorem ow_close (c : Dev nD) (O : CellTallies nD τ sig ℕ) {W : Waits sig ℕ} : owes (c : Thread nD τ) O W ⊢ (ow c O : sProp 𝕄) := by
  unfold ow; iintro H; iexists W; iexact H

/-! ## Transfers -/

theorem amt_dma (b : Bool) (i : Fin 8) (s : Fin 2) : amtK (.inr (.inl (b, i, s))) = N := rfl

/-- Starting hop `h`'s transfer. -/
theorem send_step (c : Dev nD) (i : Fin 8) {h : ℕ} (hh : h ≤ 6) {O₁ O : CellTallies nD τ sig ℕ} (hO : O₁ = O + tR h i c) {k : P F} {Q : PUnit → sProp 𝕄} :
    iprop(ctx S K κ ∗ slot c i (sl h) (S i c h) ∗ slotE (fwdD i c) i (sl (h + 1)) ∗ ow c O₁
        ∗ dutyTok ER (cell c (kSend i (sl h))) (h / 2) 0 ∗ reached ER (cell c (kSend i (sl h))) (h / 2)
        ∗ dutyTok ER (cell (fwdD i c) (kRecv i (sl (h + 1)))) (h / 2) 0 ∗ reached ER (cell (fwdD i c) (kRecv i (sl (h + 1)))) (h / 2))
      ⊢ iprop(((cred (tallyAt (cell c (kSend i (sl h))) 0 N) ∗ ow c O) -∗ wpR c k Q) -∗ wpR c (sendP i h c k) Q) := by
  unfold sendP slot slotE owns ow
  iintro ⟨#Hctx, ⟨%fs, %hfs, Hsrc⟩, ⟨%fd, Hdst⟩, ⟨%W, Ho⟩, Ht1, Hr1, Ht2, Hr2⟩ Hk
  iapply (Rounds.wp_send_pointsTo 𝒱₀ ER (Rd S) (c : Thread nD τ) none (κ₁ := K (c, kSend i (sl h))) (κ₂ := K (fwdD i c, kRecv i (sl (h + 1))))
    (sS := .dma (sendS i (sl h))) (sem := .dma (recvS i (sl (h + 1))))
    (r₁ := h / 2) (r₂ := h / 2) (d₁ := 0) (d₂ := 0) (fs := fs) (fd := fd)
    (by exact ((duties_cell S c (kSend i (sl h)) (h / 2)).trans (dut_send i hh)).symm ▸ Finset.mem_singleton_self (0 : Fin 6))
    (by exact ((duties_cell S (fwdD i c) (kRecv i (sl (h + 1))) (h / 2)).trans (dut_recv i hh)).symm ▸ Finset.mem_singleton_self (0 : Fin 6))
    (h / 2) 0 N rfl (amount_cell S c (kSend i (sl h)) _ _) (amount_cell S (fwdD i c) (kRecv i (sl (h + 1))) _ _) O hO (W := W)
    (by
      refine BIBase.Entails.trans ?_ (Entails.of_eq (payload_cell S c (kSend i (sl h)) (h / 2) 0).symm)
      show _ ⊢ slotE c i (sl h)
      unfold slotE
      iintro H; iexists fs; iexact H)
    (by
      refine BIBase.Entails.trans ?_ (Entails.of_eq (payload_cell S (fwdD i c) (kRecv i (sl (h + 1))) (h / 2) 0).symm)
      show _ ⊢ slot (fwdD i c) i (sl (h + 1)) (S i (bwdD i (fwdD i c)) (hopOf true (sl (h + 1)) (h / 2)))
      rw [bwd_fwd, hop_recv]
      unfold slot owns
      iintro H
      iexists ((cSq i (sl (h + 1))).view.write (Elt F) fd ((cSq i (sl h)).view.read (Elt F) fs) Finset.univ)
      isplitr
      · ipureintro
        exact (View.read_write_univ (v := (cSq i (sl (h + 1))).view) fd _).trans hfs
      iexact H)) $$ [Hsrc Hdst Ho Ht1 Hr1 Ht2 Hr2]
  · isplitr; · iapply (ctx_cell c (kSend i (sl h))); iexact Hctx
    isplitr; · iapply (ctx_cell (fwdD i c) (kRecv i (sl (h + 1)))); iexact Hctx
    isplitl [Hsrc]; · iexact Hsrc
    isplitl [Hdst]; · iexact Hdst
    isplitl [Ho]; · iexact Ho
    isplitl [Ht1]; · iexact Ht1
    isplitl [Hr1]; · iexact Hr1
    isplitl [Ht2]; · iexact Ht2
    iexact Hr2
  iintro ⟨Hc, Ho⟩
  iapply Hk
  isplitl [Hc]; · iexact Hc
  iexists W; iexact Ho

/-- Waiting for a transfer's departure or arrival. -/
theorem dma_wait (c : Dev nD) (b : Bool) (i : Fin 8) (s s' : Fin 2) (r : ℕ) (ι : ℕ) (hr : hopOf b s r ≤ 6) (hι : ι < 6)
    {O : CellTallies nD τ sig ℕ} {n : ℕ} (hO : Above O n) (hn : lvK (.inr (.inl (b, i, s))) ι < n)
    {sem : DmaSem sig} (hsem : semOf (.inr (.inl (b, i, s))) = .dma sem)
    {k : PUnit → P F} {Q : PUnit → sProp 𝕄} :
    iprop(ctx S K κ ∗ cred (tallyAt (cell c (.inr (.inl (b, i, s)))) ι N) ∗ ow c O ∗ atPos ER (cell c (.inr (.inl (b, i, s)))) r ∅ 0)
      ⊢ iprop(((ow c O ∗ atPos ER (cell c (.inr (.inl (b, i, s)))) (r + 1) ∅ 0 ∗ reached ER (cell c (.inr (.inl (b, i, s)))) (r + 1)
          ∗ payK S c (.inr (.inl (b, i, s))) r 0) -∗ wpR c (k ⟨⟩) Q)
        -∗ wpR c (.op (.waitDma2 sem (cSq i s') (cSq i s) (cSq_words i _) (cSq_words i _)) k) Q) := by
  have hw : ∀ K' : PUnit → sProp 𝕄, wpE (defs₀ (F := F)) 𝒱₀ (c : Thread nD τ) none Set.univ
      (.waitDma2 sem (cSq i s') (cSq i s) (cSq_words i _) (cSq_words i _)) K' = waitSpec (c : Thread nD τ) Set.univ (semOf (.inr (.inl (b, i, s)))) N K' := fun K' => by
    rw [hsem]; exact wpE_waitDma2_eq 𝒱₀ (c : Thread nD τ) none Set.univ K'
  unfold ow
  iintro ⟨#Hctx, Hc, ⟨%W, Ho⟩, Ha⟩ Hk
  iapply (Rounds.wp_wait_rest_token 𝒱₀ ER (Rd S) (c : Thread nD τ) none (κ := K (c, .inr (.inl (b, i, s)))) (sm := semOf (.inr (.inl (b, i, s))))
    hw (Set.mem_univ _) ι (O := O) (W := W) (R := r) (m := 0) (T := ∅)
    (by
      have he : (Rd (F := F) S).expect (cell c (.inr (.inl (b, i, s)))) r = (dutK (.inr (.inl (b, i, s))) r).card * amtK (.inr (.inl (b, i, s))) := expect_cell S c _ r
      rw [show (Rd (F := F) S).expect ((c : Thread nD τ), semOf (.inr (.inl (b, i, s)))) r = _ from he, show dutK (.inr (.inl (b, i, s))) r = {0} from if_pos hr]
      simp [amt_dma])) $$ [Hc Ho Ha]
  · isplitr; · iapply (ctx_cell c (.inr (.inl (b, i, s)))); iexact Hctx
    isplitl [Hc]; · iexact Hc
    isplitl [Ho]; · iexact Ho
    isplitr
    · iapply (mayWait_cell c (.inr (.inl (b, i, s))) hι hO hn)
      iapply ctx_lev; iexact Hctx
    iexact Ha
  iintro ⟨Ho, Ha, Hr, Hp⟩
  iapply Hk
  isplitl [Ho]; · iexists _; iexact Ho
  isplitl [Ha]; · iexact Ha
  isplitl [Hr]; · iexact Hr
  have hp : bigSep ((Rd (F := F) S).duties (cell c (.inr (.inl (b, i, s)))) r \ ∅) (fun d => (Rd (F := F) S).payload (cell c (.inr (.inl (b, i, s)))) r d)
      = payK S c (.inr (.inl (b, i, s))) r 0 := by
    rw [rest_cell, show dutK (.inr (.inl (b, i, s))) r = {0} from if_pos hr, BI.bigSep_singleton]
  iapply (Entails.of_eq hp)
  iexact Hp

/-! ## The rings' states -/

/-- The grants received by ring `i`'s sender after `m` waits for them. -/
def credSt (c : Dev nD) (i : Fin 8) (m : ℕ) : sProp 𝕄 :=
  iprop(∃ T : Finset (Fin 6), ⌜m ≤ T.card⌝ ∗ atPos ER (cell c (kCred i)) 0 T m
    ∗ bigSep T fun d => (reached ER (gcell (fwdD i c)) (8 * d.val + i.val + 1) : sProp 𝕄))

/-- A ring while hop `h`'s transfer is under way. -/
def hopSt (c : Dev nD) (i : Fin 8) (h : ℕ) : sProp 𝕄 :=
  iprop(cred (tallyAt (cell c (kSend i (sl h))) 0 N)
    ∗ atPos ER (cell c (kSend i (sl h))) (h / 2) ∅ 0 ∗ atPos ER (cell c (kSend i (sl (h + 1)))) ((h + 1) / 2) ∅ 0
    ∗ atPos ER (cell c (kRecv i (sl (h + 1)))) (h / 2) ∅ 0 ∗ atPos ER (cell c (kRecv i (sl h))) ((h + 1) / 2) ∅ 0
    ∗ reached ER (cell c (kSend i (sl (h + 1)))) ((h + 1) / 2) ∗ reached ER (cell c (kRecv i (sl h))) ((h + 1) / 2)
    ∗ credSt c i h)

/-- What hop `h` of a ring uses up. -/
def hopRes (c : Dev nD) (i : Fin 8) (h : Fin 6) : sProp 𝕄 :=
  iprop(dutyTok ER (cell (bwdD i c) (kCred i)) 0 h
    ∗ dutyTok ER (cell c (kSend i (sl (h.val + 1)))) ((h.val + 1) / 2) 0
    ∗ dutyTok ER (cell (fwdD i c) (kRecv i (sl (h.val + 1 + 1)))) ((h.val + 1) / 2) 0
    ∗ dutyTok ER (gcell (fwdD i c)) (8 * h.val + i.val) 0
    ∗ cred (tallyAt (cell c (kRecv i (sl (h.val + 1)))) (h.val / 2) N)
    ∗ cred (tallyAt (cell c (kCred i)) h.val 1))

/-- What a device owes before the `T`-th granted step, with its count of grants. -/
def owG (c : Dev nD) (T : ℕ) : sProp 𝕄 := iprop(ow c (rem c T) ∗ atPos ER (gcell c) T ∅ 0)

theorem exists_late {T : Finset (Fin 6)} {h : ℕ} (hT : h + 1 ≤ T.card) : ∃ d ∈ T, h ≤ d.val := by
  by_contra hc
  have hsub : T.map Fin.valEmbedding ⊆ Finset.range h := by
    intro x hx
    obtain ⟨d, hd, rfl⟩ := Finset.mem_map.mp hx
    exact Finset.mem_range.mpr (not_le.mp fun hle => hc ⟨d, hd, hle⟩)
  have := Finset.card_le_card hsub
  rw [Finset.card_map, Finset.card_range] at this
  omega

/-- Waiting for one more grant gives the slot the next transfer goes to. -/
theorem cred_wait (c : Dev nD) (i : Fin 8) (h : Fin 6) {O : CellTallies nD τ sig ℕ} (hO : Above O (2 * (8 * h.val + i.val) + 18))
    {k : PUnit → P F} {Q : PUnit → sProp 𝕄} :
    iprop(ctx S K κ ∗ cred (tallyAt (cell c (kCred i)) h.val 1) ∗ ow c O ∗ credSt c i h.val ∗ dutyTok ER (gcell (fwdD i c)) (8 * h.val + i.val) 0)
      ⊢ iprop(((ow c O ∗ credSt c i (h.val + 1) ∗ depo (fwdD i c) (h, i)) -∗ wpR c (k ⟨⟩) Q) -∗ wpR c (.op (.semWait (credS i) ((1 : ℕ) : ℤ)) k) Q) := by
  unfold ow credSt
  iintro ⟨#Hctx, Hc, ⟨%W, Ho⟩, ⟨%T, %hT, Ha, #HT⟩, Ht⟩ Hk
  iapply (Rounds.wp_wait 𝒱₀ ER (Rd S) (c : Thread nD τ) none (κ := K (c, kCred i)) (sm := semOf (kCred i)) (k' := 1)
    (wpE_semWait_eq 𝒱₀ (c : Thread nD τ) none Set.univ) (Set.mem_univ _) (cr := Finsupp.single h.val 1) (O := O) (W := W) {(semOf (kCred i), h.val)} (R := 0) (m := h.val) (T := T)
    (by rw [Util.total_single]) (image_single_subset _ _ _)) $$ [Hc Ho Ha]
  · isplitr; · iapply (ctx_cell c (kCred i)); iexact Hctx
    isplitl [Hc]; · iexact Hc
    isplitl [Ho]; · iexact Ho
    isplitr
    · iapply (mayWait_cell c (kCred i) h.isLt hO (show 2 * (8 * h.val + i.val) + 17 < _ by omega))
      iapply ctx_lev; iexact Hctx
    iexact Ha
  iintro %T' ⟨%hT', Ho, Ha, Hp⟩
  obtain ⟨hsub, hsub', hcard⟩ := hT'
  have hd : (Rd (F := F) S).duties ((c : Thread nD τ), semOf (kCred i)) 0 = Finset.univ := duties_cell S c (kCred i) 0
  have he : (Rd (F := F) S).expect ((c : Thread nD τ), semOf (kCred i)) 0 = 6 := expect_cell S c (kCred i) 0
  rw [hd, he, Finset.card_sdiff_of_subset (Finset.subset_univ _)] at hcard
  have hc6 : T'.card ≤ 6 := by simpa using Finset.card_le_univ T'
  have hcard' : h.val + 1 ≤ T'.card := by
    have : (Finset.univ : Finset (Fin 6)).card = 6 := rfl
    omega
  have hpay : bigSep (T' \ T) (fun d => (Rd (F := F) S).payload ((c : Thread nD τ), semOf (kCred i)) 0 d)
      = bigSep (T' \ T) fun d => (reached ER (gcell (fwdD i c)) (8 * d.val + i.val + 1) : sProp 𝕄) :=
    bigSep_congr fun d _ => payload_cell S c (kCred i) 0 d
  ihave Hp := (Entails.of_eq hpay) $$ Hp
  icases Hp with #Hp
  have hall : iprop(bigSep T (fun d => (reached ER (gcell (fwdD i c)) (8 * d.val + i.val + 1) : sProp 𝕄))
      ∗ bigSep (T' \ T) fun d => (reached ER (gcell (fwdD i c)) (8 * d.val + i.val + 1) : sProp 𝕄))
      = bigSep T' fun d => (reached ER (gcell (fwdD i c)) (8 * d.val + i.val + 1) : sProp 𝕄) := by
    conv_rhs => rw [← Finset.union_sdiff_of_subset hsub]
    exact (BI.bigSep_union Finset.disjoint_sdiff).symm
  ihave #Hall := (Entails.of_eq hall) $$ []
  · isplitr; · iexact HT
    iexact Hp
  obtain ⟨d, hdT, hdh⟩ := exists_late hcard'
  ihave Hr := (all_at (Φ := fun d : Fin 6 => (reached ER (gcell (fwdD i c)) (8 * d.val + i.val + 1) : sProp 𝕄)) hdT) $$ Hall
  ihave Hr := (reached_mono ER (show 8 * h.val + i.val + 1 ≤ 8 * d.val + i.val + 1 by omega)) $$ Hr
  imod (grant_take (fwdD i c) (κ (fwdD i c)) (h, i)) $$ [Hr Ht] with Hd
  · isplitr; · iapply (ctx_grants (fwdD i c)); iexact Hctx
    isplitl [Hr]; · iexact Hr
    iexact Ht
  iapply Hk
  isplitl [Ho]; · iexists _; iexact Ho
  isplitl [Ha]
  · iexists T'
    isplitr; · ipureintro; exact hcard'
    isplitl [Ha]; · iexact Ha
    iexact Hall
  iexact Hd

end Cert.KernelIdeal.Ring
-- ==== Proof.Hops.lean ====
/- The kernel's larger steps as rules: partial products, a ring's start, a hop, the last hop, the
   handshakes, and a step taken by every ring. -/
module

public import proofs.«01_k».proof.Proof.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {S : Fin 8 → Dev nD → ℕ → Vec F S512x1024 .bf16} {K : Dev nD × CK → ℕ} {κ : Dev nD → ℕ}

/-! ## Steps in order -/

/-- Steps taken one after the other. -/
theorem fold_steps (c : Dev nD) {n : ℕ} (f : Fin n → P F → P F) (R : ℕ → sProp 𝕄)
    (hf : ∀ (i : Fin n) (k : P F) (Q : PUnit → sProp 𝕄), R i.val ⊢ iprop((R (i.val + 1) -∗ wpR c k Q) -∗ wpR c (f i k) Q))
    (k : P F) (Q : PUnit → sProp 𝕄) :
    R 0 ⊢ iprop((R n -∗ wpR c k Q) -∗ wpR c ((List.finRange n).foldr f k) Q) := by
  have key : ∀ m j : ℕ, j + m = n → (R j ⊢ iprop((R n -∗ wpR c k Q) -∗ wpR c (((List.finRange n).drop j).foldr f k) Q)) := by
    intro m
    induction m with
    | zero =>
      intro j hj
      have : (List.finRange n).drop j = [] := List.drop_eq_nil_of_le (by rw [List.length_finRange]; omega)
      rw [this]
      obtain rfl : j = n := by omega
      iintro H Hk
      iapply Hk
      iexact H
    | succ m ih =>
      intro j hj
      have hl : j < (List.finRange n).length := by rw [List.length_finRange]; omega
      rw [List.drop_eq_getElem_cons hl, List.getElem_finRange]
      iintro H Hk
      iapply (hf ⟨j, by omega⟩ _ Q) $$ H
      iintro H
      iapply (ih (j + 1) (by omega)) $$ H
      iexact Hk
  exact key n 0 (by omega)

/-- A step of every ring, each from its own state `A i` to `B i`, passing the state `C` on. -/
theorem rings_steps (c : Dev nD) (f : Fin 8 → P F → P F) (A B : Fin 8 → sProp 𝕄) (C : ℕ → sProp 𝕄)
    (hf : ∀ (i : Fin 8) (k : P F) (Q : PUnit → sProp 𝕄), iprop(A i ∗ C i.val) ⊢ iprop(((B i ∗ C (i.val + 1)) -∗ wpR c k Q) -∗ wpR c (f i k) Q))
    (k : P F) (Q : PUnit → sProp 𝕄) :
    iprop((bigSep Finset.univ A) ∗ C 0) ⊢ iprop((((bigSep Finset.univ B) ∗ C 8) -∗ wpR c k Q) -∗ wpR c (rings f k) Q) := by
  have hA : bigSep Finset.univ A = bigSep Finset.univ fun j : Fin 8 => if j.val < 0 then B j else A j :=
    bigSep_congr fun j _ => (if_neg (Nat.not_lt_zero _)).symm
  have hB : (bigSep Finset.univ fun j : Fin 8 => if j.val < 8 then B j else A j) = bigSep Finset.univ B := bigSep_congr fun j _ => if_pos j.isLt
  rw [hA, ← hB]
  refine fold_steps c f (fun n => iprop((bigSep Finset.univ fun j : Fin 8 => if j.val < n then B j else A j) ∗ C n)) (fun i k Q => ?_) k Q
  have h1 : (bigSep Finset.univ fun j : Fin 8 => if j.val < i.val then B j else A j)
      = iprop(A i ∗ bigSep (Finset.univ.erase i) fun j : Fin 8 => if j.val < i.val then B j else A j) := by
    rw [BI.bigSep_univ_at _ i, if_neg (Nat.lt_irrefl _)]
  have h2 : (bigSep Finset.univ fun j : Fin 8 => if j.val < i.val + 1 then B j else A j)
      = iprop(B i ∗ bigSep (Finset.univ.erase i) fun j : Fin 8 => if j.val < i.val then B j else A j) := by
    rw [BI.bigSep_univ_at _ i, if_pos (Nat.lt_succ_self _)]
    congr 1
    refine bigSep_congr fun j hj => ?_
    have hne : j.val ≠ i.val := fun h => (Finset.mem_erase.mp hj).1 (Fin.ext h)
    by_cases hlt : j.val < i.val
    · rw [if_pos hlt, if_pos (by omega)]
    · rw [if_neg hlt, if_neg (by omega)]
  rw [h1, h2]
  iintro ⟨⟨HA, Hr⟩, HC⟩ Hk
  iapply (hf i k Q) $$ [HA HC]
  · isplitl [HA]; · iexact HA
    iexact HC
  iintro ⟨HB, HC⟩
  iapply Hk
  isplitr [HC]
  · isplitl [HB]; · iexact HB
    iexact Hr
  iexact HC

/-! ## The buffers -/

/-- A whole buffer at a device. -/
abbrev whole (c : Dev nD) {cs : CoreSpace} {s : Shape} {e : EltTy} (m : Memref sig .tc cs s e) (f : Buf (Elt F) (m.view.loc (c : Thread nD τ))) : sProp 𝕄 :=
  (m.view.loc (c : Thread nD τ) ↦{fullShare} f)

/-- Ring `i`'s tile of the right factor's block. -/
abbrev wT (fw : wM.view.ty.Contents (Elt F)) (i : Fin 8) : Vec F S512x1024 .fp8e5m2 := wM.view.readAt (Elt F) (wR i).toLoadRect fw
/-- The chunk of the left factor's block of hop `h`'s partial products in ring `i`'s direction. -/
abbrev xC (fx : xM.view.ty.Contents (Elt F)) (i : Fin 8) (c : Dev nD) (h : Fin 7) : Vec F S512x512 .fp8e4m3 :=
  xM.view.readAt (Elt F) (xR i c h).toLoadRect fx
/-- The chunk a ring starts with. -/
abbrev xC0 (fx : xM.view.ty.Contents (Elt F)) (i : Fin 8) (c : Dev nD) : Vec F S512x512 .fp8e4m3 :=
  xM.view.readAt (Elt F) (xR0 i c).toLoadRect fx
/-- Hop `h`'s partial product of ring `i`. -/
def PV (fx : xM.view.ty.Contents (Elt F)) (fw : wM.view.ty.Contents (Elt F)) (c : Dev nD) (h : Fin 7) (i : Fin 8) : Vec F S512x1024 .bf16 :=
  k0_pay24 (k0_pay2 (xC fx i c h)) (wT fw i)

/-- The partial products all rings add from. -/
def parts (c : Dev nD) (A : Fin 8 → Vec F S512x1024 .bf16) : sProp 𝕄 := bigSep Finset.univ fun i => tile c (pM i) (pR i) (A i)

theorem parts_at (c : Dev nD) (A : Fin 8 → Vec F S512x1024 .bf16) (i : Fin 8) :
    parts c A = (iprop(tile c (pM i) (pR i) (A i) ∗ bigSep (Finset.univ.erase i) fun j => tile c (pM j) (pR j) (A j)) : sProp 𝕄) :=
  BI.bigSep_univ_at _ i

theorem parts_update (c : Dev nD) (A : Fin 8 → Vec F S512x1024 .bf16) (i : Fin 8) (V : Vec F S512x1024 .bf16) :
    parts c (Function.update A i V) = (iprop(tile c (pM i) (pR i) V ∗ bigSep (Finset.univ.erase i) fun j => tile c (pM j) (pR j) (A j)) : sProp 𝕄) := by
  rw [parts_at _ _ i, Function.update_self]
  congr 1
  exact bigSep_congr fun j hj => by rw [Function.update_of_ne (Finset.mem_erase.mp hj).1]

/-- One tile of partial products. -/
theorem tileP_step (c : Dev nD) (i : Fin 8) (xc : FVec F S512x512 .bf16) (fw : wM.view.ty.Contents (Elt F)) (A : Fin 8 → Vec F S512x1024 .bf16)
    {k : P F} {Q : PUnit → sProp 𝕄} :
    iprop(whole c wM fw ∗ parts c A)
      ⊢ iprop(((whole c wM fw ∗ parts c (Function.update A i (k0_pay24 xc (wT fw i)))) -∗ wpR c k Q) -∗ wpR c (tileP i xc k) Q) := by
  rw [parts_at c A i, parts_update]
  unfold tileP
  iintro ⟨Hw, Ht, Hr⟩ Hk
  iapply (buf_load c wM _ fw) $$ Hw
  iintro Hw
  iapply (tile_load c (pM i) (pR i) _) $$ Ht
  iintro Ht
  iapply (tile_store c (pM i) (pR i) _ _) $$ Ht
  iintro Ht
  iapply Hk
  isplitl [Hw]; · iexact Hw
  isplitl [Ht]; · iexact Ht
  iexact Hr

/-- The partial products of one direction. -/
theorem dirP_step (c : Dev nD) (i₀ i₁ i₂ i₃ : Fin 8) (h : Fin 7) (fx : xM.view.ty.Contents (Elt F)) (fw : wM.view.ty.Contents (Elt F))
    (A : Fin 8 → Vec F S512x1024 .bf16) {k : P F} {Q : PUnit → sProp 𝕄} :
    iprop(whole c xM fx ∗ whole c wM fw ∗ parts c A)
      ⊢ iprop(((whole c xM fx ∗ whole c wM fw
          ∗ parts c (Function.update (Function.update (Function.update (Function.update A i₀ (k0_pay24 (k0_pay2 (xC fx i₀ c h)) (wT fw i₀)))
              i₁ (k0_pay24 (k0_pay2 (xC fx i₀ c h)) (wT fw i₁))) i₂ (k0_pay24 (k0_pay2 (xC fx i₀ c h)) (wT fw i₂))) i₃ (k0_pay24 (k0_pay2 (xC fx i₀ c h)) (wT fw i₃))))
          -∗ wpR c k Q) -∗ wpR c (dirP i₀ i₁ i₂ i₃ c h k) Q) := by
  unfold dirP
  iintro ⟨Hx, Hw, Hp⟩ Hk
  iapply (buf_load c xM _ fx) $$ Hx
  iintro Hx
  iapply (tileP_step c i₀ _ fw _) $$ [Hw Hp]
  · isplitl [Hw] <;> iassumption
  iintro Hwp
  iapply (tileP_step c i₁ _ fw _) $$ Hwp
  iintro Hwp
  iapply (tileP_step c i₂ _ fw _) $$ Hwp
  iintro Hwp
  iapply (tileP_step c i₃ _ fw _) $$ Hwp
  iintro Hwp
  iapply Hk
  isplitl [Hx]; · iexact Hx
  iexact Hwp

theorem xC_parity (fx : xM.view.ty.Contents (Elt F)) {i j : Fin 8} (hij : i.val % 2 = j.val % 2) (c : Dev nD) (h : Fin 7) : xC fx i c h = xC fx j c h := by
  have e : xOff i c h = xOff j c h := by unfold xOff; rw [hij]
  have gen : ∀ (o o' : Fin 2 → ℕ) (ho : ∀ a, o a + S512x512.size a ≤ S4096x512.size a) (ho' : ∀ a, o' a + S512x512.size a ≤ S4096x512.size a), o = o' →
      xM.view.readAt (Elt F) (Rect.unit (s := S4096x512) o S512x512.size ho).toLoadRect fx
        = xM.view.readAt (Elt F) (Rect.unit (s := S4096x512) o' S512x512.size ho').toLoadRect fx := by
    rintro o _ ho ho' rfl; rfl
  exact gen _ _ _ _ e

/-- All partial products of a hop. -/
theorem prefetch_step (c : Dev nD) (h : Fin 7) (fx : xM.view.ty.Contents (Elt F)) (fw : wM.view.ty.Contents (Elt F))
    (A : Fin 8 → Vec F S512x1024 .bf16) {k : P F} {Q : PUnit → sProp 𝕄} :
    iprop(whole c xM fx ∗ whole c wM fw ∗ parts c A)
      ⊢ iprop(((whole c xM fx ∗ whole c wM fw ∗ parts c (PV fx fw c h)) -∗ wpR c k Q) -∗ wpR c (prefetchP c h k) Q) := by
  unfold prefetchP
  iintro H Hk
  iapply (dirP_step c 0 2 4 6 h fx fw A) $$ H
  iintro H
  iapply (dirP_step c 1 3 5 7 h fx fw _) $$ H
  iintro ⟨Hx, Hw, Hp⟩
  iapply Hk
  isplitl [Hx]; · iexact Hx
  isplitl [Hw]; · iexact Hw
  have hP : ∀ B : Fin 8 → Vec F S512x1024 .bf16, B = PV fx fw c h → (parts c B ⊢ (parts c (PV fx fw c h) : sProp 𝕄)) := fun B hB => by rw [hB]
  iapply (hP _ (funext fun i => ?_)) $$ Hp
  match i with
  | 0 | 1 => rfl
  | 2 => exact congrArg (fun x => k0_pay24 (k0_pay2 x) (wT fw 2)) (xC_parity fx (i := 0) (j := 2) rfl c h)
  | 4 => exact congrArg (fun x => k0_pay24 (k0_pay2 x) (wT fw 4)) (xC_parity fx (i := 0) (j := 4) rfl c h)
  | 6 => exact congrArg (fun x => k0_pay24 (k0_pay2 x) (wT fw 6)) (xC_parity fx (i := 0) (j := 6) rfl c h)
  | 3 => exact congrArg (fun x => k0_pay24 (k0_pay2 x) (wT fw 3)) (xC_parity fx (i := 1) (j := 3) rfl c h)
  | 5 => exact congrArg (fun x => k0_pay24 (k0_pay2 x) (wT fw 5)) (xC_parity fx (i := 1) (j := 5) rfl c h)
  | 7 => exact congrArg (fun x => k0_pay24 (k0_pay2 x) (wT fw 7)) (xC_parity fx (i := 1) (j := 7) rfl c h)

/-! ## A ring's start -/

/-- The positions a ring starts from. -/
def ringPos (c : Dev nD) (i : Fin 8) : sProp 𝕄 :=
  iprop(atPos ER (cell c (kSend i (sl 0))) 0 ∅ 0 ∗ atPos ER (cell c (kSend i (sl 1))) 0 ∅ 0
    ∗ atPos ER (cell c (kRecv i (sl 1))) 0 ∅ 0 ∗ atPos ER (cell c (kRecv i (sl 0))) 0 ∅ 0 ∗ atPos ER (cell c (kCred i)) 0 ∅ 0)

/-- What a ring's start uses up. -/
def initRes (c : Dev nD) (i : Fin 8) : sProp 𝕄 :=
  iprop(slotE c i 0 ∗ slotE (fwdD i c) i (sl 1) ∗ dutyTok ER (cell c (kSend i (sl 0))) 0 0 ∗ dutyTok ER (cell (fwdD i c) (kRecv i (sl 1))) 0 0
    ∗ ringPos c i)

theorem initP_step (c : Dev nD) (i : Fin 8) (xc : FVec F S512x512 .bf16) (fw : wM.view.ty.Contents (Elt F))
    (hS : S i c 0 = shapeCast S512x1024 (k0_pay11 xc (wT fw i)) squeezes_S1x1x512x1024_S512x1024.numel_eq) {k : P F} {Q : PUnit → sProp 𝕄} :
    iprop(initRes c i ∗ ctx S K κ ∗ ow c (remI c i.val) ∗ whole c wM fw)
      ⊢ iprop(((hopSt c i 0 ∗ ctx S K κ ∗ ow c (remI c (i.val + 1)) ∗ whole c wM fw) -∗ wpR c k Q) -∗ wpR c (initP i c xc k) Q) := by
  unfold initP initRes ringPos hopSt credSt
  iintro ⟨⟨Hs, Hd, Ht1, Ht2, Ha1, Ha2, Ha3, Ha4, Ha5⟩, #Hctx, Ho, Hw⟩ Hk
  iapply (buf_load c wM _ fw) $$ Hw
  iintro Hw
  iapply (slotE_load c i 0) $$ Hs
  iintro %v Hs
  iapply (slot_store c i 0 _) $$ Hs
  rw [← hS]
  iintro Hs
  iapply (send_step (S := S) (K := K) (κ := κ) c i (h := 0) (by omega) (remI_step c i)) $$ [Hs Hd Ho Ht1 Ht2]
  · isplitr; · iexact Hctx
    isplitl [Hs]; · iexact Hs
    isplitl [Hd]; · iexact Hd
    isplitl [Ho]; · iexact Ho
    isplitl [Ht1]; · iexact Ht1
    isplitr; · iapply (ctx_reached c (kSend i (sl 0))); iexact Hctx
    isplitl [Ht2]; · iexact Ht2
    iapply (ctx_reached (fwdD i c) (kRecv i (sl 1))); iexact Hctx
  iintro ⟨Hc, Ho⟩
  iapply Hk
  isplitr [Ho Hw]
  · isplitl [Hc]; · iexact Hc
    isplitl [Ha1]; · iexact Ha1
    isplitl [Ha2]; · iexact Ha2
    isplitl [Ha3]; · iexact Ha3
    isplitl [Ha4]; · iexact Ha4
    isplitr; · iapply (ctx_reached c (kSend i (sl 1))); iexact Hctx
    isplitr; · iapply (ctx_reached c (kRecv i (sl 0))); iexact Hctx
    iexists ∅
    isplitr; · ipureintro; exact Nat.zero_le _
    isplitl [Ha5]; · iexact Ha5
    rw [BI.bigSep_empty]; iempintro
  isplitr; · iexact Hctx
  isplitl [Ho]; · iexact Ho
  iexact Hw

/-! ## A hop -/

theorem sl_two (h : ℕ) : sl (h + 1 + 1) = sl h := Fin.ext (by show (h + 1 + 1) % 2 = h % 2; omega)
theorem half_two (h : ℕ) : (h + 1 + 1) / 2 = h / 2 + 1 := by omega

theorem hopP_step (c : Dev nD) (i : Fin 8) (h : Fin 6) (A : Fin 8 → Vec F S512x1024 .bf16)
    (hS : ∀ v, shapeCast S512x1024 v squeezes_S1x1x512x1024_S512x1024.numel_eq = S i (bwdD i c) h.val →
      shapeCast S512x1024 (k0_pay25 v (A i)) squeezes_S1x1x512x1024_S512x1024.numel_eq = S i c (h.val + 1)) {k : P F} {Q : PUnit → sProp 𝕄} :
    iprop((hopSt c i h.val ∗ hopRes c i h) ∗ ctx S K κ ∗ owG c (8 * h.val + i.val) ∗ parts c A)
      ⊢ iprop(((hopSt c i (h.val + 1) ∗ ctx S K κ ∗ owG c (8 * h.val + (i.val + 1)) ∗ parts c A) -∗ wpR c k Q) -∗ wpR c (hopP i h.val c k) Q) := by
  have hh := h.isLt
  have hsl := sl_two h.val
  have hhf := half_two h.val
  rw [parts_at c A i]
  unfold hopP hopSt hopRes owG
  rw [hsl, hhf, ← add_assoc]
  iintro ⟨⟨⟨Hcs, Has, Has', Har, Har', #Hrs, #Hrr, Hcr⟩, Htc, Hts, Htr, Htg, Hcv, Hcc⟩, #Hctx, ⟨Ho, Hag⟩, Ht, Hrest⟩ Hk
  -- the transfer has left: its slot is free
  iapply (dma_wait (S := S) (K := K) (κ := κ) c false i (sl h.val) (sl (h.val + 1)) (h.val / 2) 0 (by rw [hop_send]; omega) (by omega)
    (above_rem c (n := 1) (by omega) (by omega)) (show (0 : ℕ) < 1 by omega) rfl) $$ [Hcs Ho Has]
  · isplitr; · iexact Hctx
    isplitl [Hcs]; · iexact Hcs
    isplitl [Ho]; · iexact Ho
    iexact Has
  iintro ⟨Ho, Has, #Hrs2, Hslot⟩
  -- grant it to the device before
  ihave Hslot := (Entails.of_eq (show payK S c (.inr (.inl (false, i, sl h.val))) (h.val / 2) 0 = slotE c i (sl h.val) from rfl)) $$ Hslot
  imod (grant_issue c (κ c) (h, i)) $$ [Hag Hslot] with ⟨Hag, #Hrg⟩
  · isplitr; · iapply (ctx_grants c); iexact Hctx
    isplitl [Hag]; · iexact Hag
    unfold depo
    isplitl [Hslot]; · iexact Hslot
    iexact Hrr
  ihave Ho := (ow_open c _) $$ Ho
  icases Ho with ⟨%W, Ho⟩
  iapply (Rounds.wp_signal 𝒱₀ ER (Rd S) (c : Thread nD τ) none (dst := (bwdD i c : Thread nD τ)) (κ := K (bwdD i c, kCred i)) (sem := credS i) (r := 0)
    (d := h) (k' := 1) (by exact (duties_cell S (bwdD i c) (kCred i) 0).symm ▸ Finset.mem_univ h) (amount_cell S (bwdD i c) (kCred i) 0 h) h.val
    (rem c (8 * h.val + i.val + 1) + tR (h.val + 1) i c) (rem_step c h i)) $$ [Ho Htc]
  · isplitr; · iapply (ctx_cell (bwdD i c) (kCred i)); iexact Hctx
    isplitl [Ho]; · iexact Ho
    isplitl [Htc]; · iexact Htc
    isplitr
    · have hp : reached ER (gcell c) (8 * h.val + i.val + 1) = (Rd (F := F) S).payload ((bwdD i c : Thread nD τ), .reg (credS i)) 0 h := by
        refine Eq.trans ?_ (payload_cell S (bwdD i c) (kCred i) 0 h).symm
        show _ = reached ER (gcell (fwdD i (bwdD i c))) (8 * h.val + i.val + 1)
        rw [fwd_bwd]
      iapply (Entails.of_eq hp)
      iexact Hrg
    iapply (ctx_reached (bwdD i c) (kCred i)); iexact Hctx
  iintro Ho
  -- the tile has arrived
  iapply (dma_wait (S := S) (K := K) (κ := κ) c true i (sl (h.val + 1)) (sl h.val) (h.val / 2) (h.val / 2) (by rw [hop_recv]; omega) (by omega)
    (O := rem c (8 * h.val + i.val + 1) + tR (h.val + 1) i c) (n := 2 * (8 * h.val + i.val) + 3)
    ((above_rem c (by omega) (by omega)).add (above_tR c i (by omega) (by omega)))
    (by rw [lv_recv]; omega) rfl) $$ [Hcv Ho Har]
  · isplitr; · iexact Hctx
    isplitl [Hcv]; · iexact Hcv
    isplitl [Ho]; · iapply (ow_close c _); iexact Ho
    iexact Har
  iintro ⟨Ho, Har, #Hrr2, Hslot⟩
  have hpay : payK S c (.inr (.inl (true, i, sl (h.val + 1)))) (h.val / 2) 0 = slot c i (sl (h.val + 1)) (S i (bwdD i c) h.val) := by
    show slot c i (sl (h.val + 1)) (S i (bwdD i c) (hopOf true (sl (h.val + 1)) (h.val / 2))) = _
    rw [hop_recv]
  ihave Hslot := (Entails.of_eq hpay) $$ Hslot
  iapply (slot_load c i (sl (h.val + 1)) _) $$ Hslot
  iintro %v %hv Hslot
  iapply (tile_load c (pM i) (pR i) _) $$ Ht
  iintro Ht
  iapply (slot_load c i (sl (h.val + 1)) _) $$ Hslot
  iintro %v' %hv' Hslot
  ihave Hslot := (slot_any c i (sl (h.val + 1)) _) $$ Hslot
  iapply (slot_store c i (sl (h.val + 1)) _) $$ Hslot
  rw [hS v hv]
  iintro Hslot
  -- the next device has granted the next transfer
  iapply (cred_wait (S := S) (K := K) (κ := κ) c i h (O := rem c (8 * h.val + i.val + 1) + tR (h.val + 1) i c)
    ((above_rem c (by omega) (by omega)).add (above_tR c i (by omega) (by omega)))) $$ [Hcc Ho Hcr Htg]
  · isplitr; · iexact Hctx
    isplitl [Hcc]; · iexact Hcc
    isplitl [Ho]; · iexact Ho
    isplitl [Hcr]; · iexact Hcr
    iexact Htg
  iintro ⟨Ho, Hcr, Hd⟩
  unfold depo
  icases Hd with ⟨Hd, #Hrd⟩
  iapply (send_step (S := S) (K := K) (κ := κ) c i (h := h.val + 1) (by omega) (rfl : rem c (8 * h.val + i.val + 1) + tR (h.val + 1) i c = _)) $$ [Hslot Hd Ho Hts Htr]
  · isplitr; · iexact Hctx
    isplitl [Hslot]; · iexact Hslot
    rw [hsl]
    isplitl [Hd]; · iexact Hd
    isplitl [Ho]; · iexact Ho
    isplitl [Hts]; · iexact Hts
    isplitr; · iexact Hrs
    isplitl [Htr]; · iexact Htr
    iexact Hrd
  iintro ⟨Hc, Ho⟩
  iapply Hk
  isplitr [Ho Hag Ht Hrest]
  · isplitl [Hc]; · iexact Hc
    isplitl [Has']; · iexact Has'
    isplitl [Has]; · iexact Has
    isplitl [Har']; · iexact Har'
    isplitl [Har]; · iexact Har
    isplitr; · iexact Hrs2
    isplitr; · iexact Hrr2
    iexact Hcr
  isplitr; · iexact Hctx
  isplitl [Ho Hag]
  · isplitl [Ho]; · iexact Ho
    iexact Hag
  isplitl [Ht]; · iexact Ht
  iexact Hrest

/-! ## The last hop -/

/-- The one element of a scale's buffer. -/
abbrev scal (m : Memref sig .tc .smem S1 .f32) (f : m.view.ty.Contents (Elt F)) : F .f32 :=
  m.view.readAt (Elt F) s1R.toLoadRect f (Shape.Idx.first (numel1_S1.symm ▸ Nat.one_pos))

/-- What a ring leaves: its slots, and every position at its end. -/
def ringEnd (c : Dev nD) (i : Fin 8) : sProp 𝕄 :=
  iprop(slotE c i 0 ∗ slotE c i 1 ∗ atPos ER (cell c (kSend i (sl 0))) 4 ∅ 0 ∗ atPos ER (cell c (kSend i (sl 1))) 3 ∅ 0
    ∗ atPos ER (cell c (kRecv i (sl 1))) 4 ∅ 0 ∗ atPos ER (cell c (kRecv i (sl 0))) 3 ∅ 0 ∗ credSt c i 6)

/-- What the last hop of a ring uses up. -/
def lastRes (c : Dev nD) (i : Fin 8) : sProp 𝕄 := cred (tallyAt (cell c (kRecv i (sl 1))) 3 N)

theorem lastP_step (c : Dev nD) (i : Fin 8) (A : Fin 8 → Vec F S512x1024 .bf16) (U O : Vec F S512x1024 .f32)
    (fsx : sxM.view.ty.Contents (Elt F)) (fsw : swM.view.ty.Contents (Elt F))
    (hO : ∀ v, shapeCast S512x1024 v squeezes_S1x1x512x1024_S512x1024.numel_eq = S i (bwdD i c) 6 →
      k0_pay162 v (A i) (scal sxM fsx) (scal swM fsw) = O) {k : P F} {Q : PUnit → sProp 𝕄} :
    iprop((hopSt c i 6 ∗ lastRes c i ∗ tile c oM (wR i) U) ∗ ctx S K κ ∗ ow c (rem c 48) ∗ parts c A ∗ whole c sxM fsx ∗ whole c swM fsw)
      ⊢ iprop((((ringEnd c i ∗ tile c oM (wR i) O) ∗ ctx S K κ ∗ ow c (rem c 48) ∗ parts c A ∗ whole c sxM fsx ∗ whole c swM fsw) -∗ wpR c k Q)
          -∗ wpR c (lastP i k) Q) := by
  rw [parts_at c A i]
  unfold lastP hopSt lastRes
  iintro ⟨⟨⟨Hcs, Has, Has', Har, Har', -, -, Hcr⟩, Hcv, Hout⟩, #Hctx, Ho, ⟨Ht, Hrest⟩, Hsx, Hsw⟩ Hk
  iapply (dma_wait (S := S) (K := K) (κ := κ) c false i 0 1 3 0 (by decide) (by omega)
    (above_rem c (T := 48) (n := 1) (by omega) (by omega)) (show (0 : ℕ) < 1 by omega) rfl) $$ [Hcs Ho Has]
  · isplitr; · iexact Hctx
    isplitl [Hcs]; · iexact Hcs
    isplitl [Ho]; · iexact Ho
    iexact Has
  iintro ⟨Ho, Has, -, Hslot0⟩
  iapply (dma_wait (S := S) (K := K) (κ := κ) c true i 1 0 3 3 (by decide) (by omega)
    (above_rem c (T := 48) (n := 113) (by omega) (by omega)) (show 2 * (8 * hopOf true 1 3 + i.val) + 2 < 113 by
      have : hopOf true 1 3 = 6 := rfl
      have := i.isLt
      omega) rfl) $$ [Hcv Ho Har]
  · isplitr; · iexact Hctx
    isplitl [Hcv]; · iexact Hcv
    isplitl [Ho]; · iexact Ho
    iexact Har
  iintro ⟨Ho, Har, -, Hslot1⟩
  ihave Hslot1 := (Entails.of_eq (show payK S c (.inr (.inl (true, i, 1))) 3 0 = slot c i 1 (S i (bwdD i c) 6) from rfl)) $$ Hslot1
  iapply (slot_load c i 1 _) $$ Hslot1
  iintro %v %hv Hslot1
  iapply (tile_load c (pM i) (pR i) _) $$ Ht
  iintro Ht
  iapply (buf_load c sxM _ fsx) $$ Hsx
  iintro Hsx
  iapply (buf_load c swM _ fsw) $$ Hsw
  iintro Hsw
  iapply (tile_load c oM (wR i) _) $$ Hout
  iintro Hout
  iapply (tile_store c oM (wR i) _ _) $$ Hout
  rw [hO v hv]
  iintro Hout
  iapply Hk
  isplitr [Ho Ht Hrest Hsx Hsw]
  · isplitr [Hout]
    · unfold ringEnd
      isplitl [Hslot0]; · iapply (Entails.of_eq (show payK S c (.inr (.inl (false, i, 0))) 3 0 = slotE c i 0 from rfl)); iexact Hslot0
      isplitl [Hslot1]; · iapply (slot_any c i 1 _); iexact Hslot1
      isplitl [Has]; · iexact Has
      isplitl [Has']; · iexact Has'
      isplitl [Har]; · iexact Har
      isplitl [Har']; · iexact Har'
      iexact Hcr
    iexact Hout
  isplitr; · iexact Hctx
  isplitl [Ho]; · iexact Ho
  isplitl [Ht Hrest]
  · isplitl [Ht]; · iexact Ht
    iexact Hrest
  isplitl [Hsx]; · iexact Hsx
  iexact Hsw

/-! ## The handshakes -/

theorem shakeP_step (c : Dev nD) (k : CK) (s : Sem sig) (hs : ∀ x : Dev nD, cell x k = ((x : Thread nD τ), .reg s)) (hd : dutK k 0 = {0, 1}) (ha : amtK k = 1)
    {O : CellTallies nD τ sig ℕ} {n : ℕ} (hO : Above O n) (hn : lvK k 0 < n) {p : P F} {Q : PUnit → sProp 𝕄} :
    iprop(ctx S K κ ∗ ow c (O + tS k c) ∗ cred (tallyAt (cell c k) 0 2) ∗ atPos ER (cell c k) 0 ∅ 0
        ∗ dutyTok ER (cell (leftD c) k) 0 1 ∗ payK S (leftD c) k 0 1 ∗ dutyTok ER (cell (rightD c) k) 0 0 ∗ payK S (rightD c) k 0 0)
      ⊢ iprop(((ow c O ∗ atPos ER (cell c k) 1 ∅ 0 ∗ payK S c k 0 0 ∗ payK S c k 0 1) -∗ wpR c p Q) -∗ wpR c (shakeP s c p) Q) := by
  have h1 : ∀ (x : Dev nD) (d : Fin 6), (Rd (F := F) S).payload ((x : Thread nD τ), .reg s) 0 d = payK S x k 0 d := fun x d => by
    rw [← hs x]; exact payload_cell S x k 0 d
  have h2 : ∀ (x : Dev nD), (Rd (F := F) S).duties ((x : Thread nD τ), .reg s) 0 = {0, 1} := fun x => by
    rw [← hs x]; exact (duties_cell S x k 0).trans hd
  have h3 : ∀ (x : Dev nD) (d : Fin 6), (Rd (F := F) S).amount ((x : Thread nD τ), .reg s) 0 d = 1 := fun x d => by
    rw [← hs x]; exact (amount_cell S x k 0 d).trans ha
  have h4 : ∀ (x : Dev nD), ctx (F := F) S K κ ⊢ cellInv ER (Rd S) (K (x, k)) ((x : Thread nD τ), .reg s) := fun x => by
    rw [← hs x]; exact ctx_cell x k
  have h5 : ∀ (x : Dev nD), ctx (F := F) S K κ ⊢ reached ER ((x : Thread nD τ), .reg s) 0 := fun x => by
    rw [← hs x]; exact ctx_reached x k
  have h6 : ctx (F := F) S K κ ⊢ MayWait (c : Thread nD τ) (.reg s) 0 O := by
    have e : semOf k = .reg s := congrArg Prod.snd (hs c)
    rw [← e]
    exact BIBase.Entails.trans ctx_lev (mayWait_cell c k (by omega) hO hn)
  have h7 : (Rd (F := F) S).expect ((c : Thread nD τ), .reg s) 0 = 2 := by
    rw [← hs c]; refine (expect_cell S c k 0).trans ?_; rw [hd, ha]; rfl
  unfold tS shakeP
  rw [hs c, hs (leftD c), hs (rightD c), ← add_assoc]
  iintro ⟨#Hctx, Ho, Hc, Ha, Ht1, Hp1, Ht0, Hp0⟩ Hk
  ihave Ho := (ow_open c _) $$ Ho
  icases Ho with ⟨%W, Ho⟩
  iapply (Rounds.wp_signal 𝒱₀ ER (Rd S) (c : Thread nD τ) none (dst := (leftD c : Thread nD τ)) (κ := K (leftD c, k)) (sem := s) (r := 0)
    (d := 1) (k' := 1) (by rw [h2]; decide) (h3 _ _) 0 (O + tallyAt ((rightD c : Thread nD τ), .reg s) 0 1) rfl) $$ [Ho Ht1 Hp1]
  · isplitr; · iapply (h4 (leftD c)); iexact Hctx
    isplitl [Ho]; · iexact Ho
    isplitl [Ht1]; · iexact Ht1
    isplitl [Hp1]; · iapply (Entails.of_eq (h1 (leftD c) 1).symm); iexact Hp1
    iapply (h5 (leftD c)); iexact Hctx
  iintro Ho
  iapply (Rounds.wp_signal 𝒱₀ ER (Rd S) (c : Thread nD τ) none (dst := (rightD c : Thread nD τ)) (κ := K (rightD c, k)) (sem := s) (r := 0)
    (d := 0) (k' := 1) (by rw [h2]; decide) (h3 _ _) 0 O rfl) $$ [Ho Ht0 Hp0]
  · isplitr; · iapply (h4 (rightD c)); iexact Hctx
    isplitl [Ho]; · iexact Ho
    isplitl [Ht0]; · iexact Ht0
    isplitl [Hp0]; · iapply (Entails.of_eq (h1 (rightD c) 0).symm); iexact Hp0
    iapply (h5 (rightD c)); iexact Hctx
  iintro Ho
  iapply (Rounds.wp_wait_rest_token 𝒱₀ ER (Rd S) (c : Thread nD τ) none (κ := K (c, k)) (sm := .reg s) (k' := 2)
    (wpE_semWait_eq 𝒱₀ (c : Thread nD τ) none Set.univ) (Set.mem_univ _) 0 (O := O) (W := W) (R := 0) (m := 0) (T := ∅) (by rw [h7])) $$ [Hc Ho Ha]
  · isplitr; · iapply (h4 c); iexact Hctx
    isplitl [Hc]; · iexact Hc
    isplitl [Ho]; · iexact Ho
    isplitr; · iapply h6; iexact Hctx
    iexact Ha
  iintro ⟨Ho, Ha, -, Hp⟩
  have h8 : bigSep ((Rd (F := F) S).duties ((c : Thread nD τ), .reg s) 0 \ ∅) (fun d => (Rd (F := F) S).payload ((c : Thread nD τ), .reg s) 0 d)
      = iprop(payK S c k 0 0 ∗ payK S c k 0 1) := by
    rw [Finset.sdiff_empty, h2, BI.bigSep_insert (by decide), BI.bigSep_singleton, h1, h1]
    rfl
  ihave Hp := (Entails.of_eq h8) $$ Hp
  iapply Hk
  isplitl [Ho]; · iapply (ow_close c _); iexact Ho
  isplitl [Ha]; · iexact Ha
  iexact Hp

end Cert.KernelIdeal.Ring
-- ==== Proof.Body.lean ====
/- The whole body as one rule: from a device's share of the launch to its share of the end, with the
   sums the rings carry. -/
module

public import proofs.«01_k».proof.Proof.Hops
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {S : Fin 8 → Dev nD → ℕ → Vec F S512x1024 .bf16} {K : Dev nD × CK → ℕ} {κ : Dev nD → ℕ}

/-! ## Steps in order -/
variable {K : Dev nD × CK → ℕ} {κ : Dev nD → ℕ}

/-- Two assertions that entail each other are equal. -/
theorem both_ways {P Q : sProp 𝕄} (h : P ⊢ Q) (h' : Q ⊢ P) : P = Q := BI.equiv_iff.mp ⟨h, h'⟩

/-! ## The sums -/

/-- A tile of partial products, rounded. -/
def mulV (xc : FVec F S512x512 .bf16) (w : Vec F S512x1024 .fp8e5m2) : Vec F S512x1024 .bf16 :=
  truncf .bf16 (matmul dot_S512x512_S512x1024_S512x1024_1_0_0_1_n_n none xc (extf .bf16 w bitsLt_fp8e5m2_bf16 : FVec F S512x1024 .bf16) (constant S512x1024 .f32 0x00000000#32)) bitsLt_bf16_f32
/-- A sum so far and a tile of partial products added, rounded. -/
def addV (V p : Vec F S512x1024 .bf16) : Vec F S512x1024 .bf16 :=
  truncf .bf16 (addf (extf .f32 V bitsLt_bf16_f32 : FVec F S512x1024 .f32) (extf .f32 p bitsLt_bf16_f32)) bitsLt_bf16_f32
/-- A sum and the last tile of partial products added, scaled and gated. -/
def outV (V p : Vec F S512x1024 .bf16) (sx sw : F .f32) : Vec F S512x1024 .f32 :=
  k0_pay162 (shapeCast S1x1x512x1024 V shapeCasts_S512x1024_S1x1x512x1024) p sx sw

theorem pay24_eq (xc : FVec F S512x512 .bf16) (w : Vec F S512x1024 .fp8e5m2) : k0_pay24 xc w = mulV xc w := by
  unfold k0_pay24 mulV
  simp only [shapeCast_self]
theorem pay11_eq (xc : FVec F S512x512 .bf16) (w : Vec F S512x1024 .fp8e5m2) :
    shapeCast S512x1024 (k0_pay11 xc w) squeezes_S1x1x512x1024_S512x1024.numel_eq = mulV xc w := by
  unfold k0_pay11 mulV
  simp only [shapeCast_self]
  exact shapeCast_shapeCast _ _ _
theorem pay25_eq (v : Vec F S1x1x512x1024 .bf16) (p : Vec F S512x1024 .bf16) :
    shapeCast S512x1024 (k0_pay25 v p) squeezes_S1x1x512x1024_S512x1024.numel_eq = addV (shapeCast S512x1024 v squeezes_S1x1x512x1024_S512x1024.numel_eq) p := by
  unfold k0_pay25 addV
  exact shapeCast_shapeCast _ _ _
theorem pay162_eq (v : Vec F S1x1x512x1024 .bf16) (p : Vec F S512x1024 .bf16) (sx sw : F .f32) :
    k0_pay162 v p sx sw = outV (shapeCast S512x1024 v squeezes_S1x1x512x1024_S512x1024.numel_eq) p sx sw := by
  unfold outV
  rw [shapeCast_shapeCast]

/-- A hop as an index of the partial products. -/
abbrev hx (h : ℕ) : Fin 7 := ⟨h % 7, Nat.mod_lt _ (by decide)⟩

variable (X : Dev nD → xM.view.ty.Contents (Elt F)) (W : Dev nD → wM.view.ty.Contents (Elt F))

/-- The sum device `c` sends in hop `h` of ring `i`. -/
def SV : ℕ → Fin 8 → Dev nD → Vec F S512x1024 .bf16
  | 0, i, c => mulV (k0_pay2 (xC0 (X c) i c)) (wT (W c) i)
  | h + 1, i, c => addV (SV h i (bwdD i c)) (PV (X c) (W c) c (hx h) i)
/-- The sums sent, as the schedule takes them. -/
abbrev SS (i : Fin 8) (c : Dev nD) (h : ℕ) : Vec F S512x1024 .bf16 := SV X W h i c
/-- Ring `i`'s tile of the result of device `c`. -/
def resV (sx sw : F .f32) (c : Dev nD) (i : Fin 8) : Vec F S512x1024 .f32 :=
  outV (SV X W 6 i (bwdD i c)) (PV (X c) (W c) c 6 i) sx sw

/-! ## All hops -/

/-- What hop `n` of a ring and the later ones use up. -/
def resFrom (c : Dev nD) (i : Fin 8) (n : ℕ) : sProp 𝕄 := bigSep (Finset.univ.filter fun h : Fin 6 => n ≤ h.val) (hopRes c i)
theorem resFrom_step (c : Dev nD) (i : Fin 8) (h : Fin 6) : resFrom (F := F) c i h.val = iprop(hopRes c i h ∗ resFrom c i (h.val + 1)) := by
  have hs : (Finset.univ.filter fun h' : Fin 6 => h.val ≤ h'.val) = insert h (Finset.univ.filter fun h' : Fin 6 => h.val + 1 ≤ h'.val) := by
    ext h'
    simp only [Finset.mem_filter, Finset.mem_univ, _root_.true_and, Finset.mem_insert, Fin.ext_iff]
    omega
  unfold resFrom
  rw [hs, BI.bigSep_insert (by simp)]
  rfl
theorem resFrom_zero (c : Dev nD) (i : Fin 8) : resFrom (F := F) c i 0 = bigSep Finset.univ (hopRes c i) := by
  unfold resFrom
  rw [Finset.filter_true_of_mem fun h _ => Nat.zero_le _]

/-- A device before its `h`-th hops. -/
def roundSt (K : Dev nD × CK → ℕ) (κ : Dev nD → ℕ) (c : Dev nD) (h : ℕ) : sProp 𝕄 :=
  iprop(ctx (SS X W) K κ ∗ owG c (8 * h) ∗ (bigSep Finset.univ fun i => iprop(hopSt c i h ∗ resFrom c i h))
    ∗ whole c xM (X c) ∗ whole c wM (W c) ∗ parts c (PV (X c) (W c) c (hx h)))

theorem roundP_step (c : Dev nD) (h : Fin 6) (k : P F) (Q : PUnit → sProp 𝕄) :
    roundSt X W K κ c h.val ⊢ iprop((roundSt X W K κ c (h.val + 1) -∗ wpR c k Q) -∗ wpR c (roundP c h k) Q) := by
  have hA : (bigSep Finset.univ fun i => iprop(hopSt (F := F) c i h.val ∗ resFrom c i h.val))
      = iprop((bigSep Finset.univ fun i => iprop(hopSt c i h.val ∗ hopRes c i h)) ∗ bigSep Finset.univ fun i => resFrom c i (h.val + 1)) := by
    refine Eq.trans (bigSep_congr fun i _ => ?_) (BI.bigSep_sep ..)
    rw [resFrom_step]
    exact (BI.equiv_iff.mp ⟨BI.sep_assoc, BI.sep_assoc'⟩).symm
  have hB : (bigSep Finset.univ fun i => iprop(hopSt (F := F) c i (h.val + 1) ∗ resFrom c i (h.val + 1)))
      = iprop((bigSep Finset.univ fun i => hopSt c i (h.val + 1)) ∗ bigSep Finset.univ fun i => resFrom c i (h.val + 1)) := BI.bigSep_sep ..
  have hh : hx (h.val + 1) = h.succ := Fin.ext (by
    have := h.isLt
    show (h.val + 1) % 7 = h.val + 1
    omega)
  unfold roundSt roundP
  rw [hA, hB, hh]
  iintro ⟨#Hctx, Hg, ⟨HA, Hr⟩, Hx, Hw, Hp⟩ Hk
  iapply (rings_steps c (fun i k => hopP i h.val c k) (fun i => iprop(hopSt c i h.val ∗ hopRes c i h)) (fun i => hopSt c i (h.val + 1))
    (fun n => iprop(ctx (SS X W) K κ ∗ owG c (8 * h.val + n) ∗ parts c (PV (X c) (W c) c (hx h.val))))
    (fun i k Q => hopP_step c i h _ (fun v hv => by
      rw [pay25_eq, hv]
      rfl)) _ Q) $$ [HA Hg Hp]
  · isplitl [HA]; · iexact HA
    isplitr; · iexact Hctx
    isplitl [Hg]; · iexact Hg
    iexact Hp
  iintro ⟨HB, -, Hg, Hp⟩
  iapply (prefetch_step c h.succ (X c) (W c) _) $$ [Hx Hw Hp]
  · isplitl [Hx]; · iexact Hx
    isplitl [Hw]; · iexact Hw
    iexact Hp
  iintro ⟨Hx, Hw, Hp⟩
  iapply Hk
  isplitr; · iexact Hctx
  isplitl [Hg]; · iexact Hg
  isplitl [HB Hr]
  · isplitl [HB]; · iexact HB
    iexact Hr
  isplitl [Hx]; · iexact Hx
  isplitl [Hw]; · iexact Hw
  iexact Hp

/-! ## The body -/

/-- What a device brings to a handshake: its credit, its position and its tokens for both neighbours. -/
def shakeRes (c : Dev nD) (k : CK) : sProp 𝕄 :=
  iprop(cred (tallyAt (cell c k) 0 2) ∗ atPos ER (cell c k) 0 ∅ 0 ∗ dutyTok ER (cell (leftD c) k) 0 1 ∗ dutyTok ER (cell (rightD c) k) 0 0)

/-- What a device brings to ring `i`. -/
def ringRes (c : Dev nD) (i : Fin 8) : sProp 𝕄 :=
  iprop(dutyTok ER (cell c (kSend i (sl 0))) 0 0 ∗ dutyTok ER (cell (fwdD i c) (kRecv i (sl 1))) 0 0 ∗ ringPos c i
    ∗ (bigSep Finset.univ (hopRes c i)) ∗ lastRes c i)

/-- What a device's body starts from. -/
def bodyPre (K : Dev nD × CK → ℕ) (κ : Dev nD → ℕ) (c : Dev nD) (A : Fin 8 → Vec F S512x1024 .bf16) (U : Fin 8 → Vec F S512x1024 .f32)
    (fsx : sxM.view.ty.Contents (Elt F)) (fsw : swM.view.ty.Contents (Elt F)) : sProp 𝕄 :=
  iprop(ctx (SS X W) K κ ∗ ow c (O₀ c) ∗ atPos ER (gcell c) 0 ∅ 0 ∗ shakeRes c kBar ∗ shakeRes c kExit
    ∗ (bigSep Finset.univ (ringRes c))
    ∗ (bigSep Finset.univ fun i => slotE c i 0) ∗ (bigSep Finset.univ fun i => slotE c i 1)
    ∗ (bigSep Finset.univ fun i => tile c oM (wR i) (U i)) ∗ parts c A
    ∗ whole c xM (X c) ∗ whole c wM (W c) ∗ whole c sxM fsx ∗ whole c swM fsw)

/-- What a device's body ends with. -/
def bodyPost (c : Dev nD) (fsx : sxM.view.ty.Contents (Elt F)) (fsw : swM.view.ty.Contents (Elt F)) : sProp 𝕄 :=
  iprop(ow c 0 ∗ atPos ER (cell c kBar) 1 ∅ 0 ∗ atPos ER (cell c kExit) 1 ∅ 0
    ∗ (bigSep Finset.univ (ringEnd c))
    ∗ (bigSep Finset.univ fun i => tile c oM (wR i) (resV X W (scal sxM fsx) (scal swM fsw) c i)) ∗ parts c (PV (X c) (W c) c 6)
    ∗ whole c xM (X c) ∗ whole c wM (W c) ∗ whole c sxM fsx ∗ whole c swM fsw)

/-- Slots given to the neighbours, by the ring's direction. -/
theorem slots_sides (Φ : Fin 8 → sProp 𝕄) : bigSep Finset.univ Φ = iprop((bigSep (ringsTo false) Φ) ∗ bigSep (ringsTo true) Φ) := by
  have hu : (Finset.univ : Finset (Fin 8)) = ringsTo false ∪ ringsTo true := by decide
  rw [hu, BI.bigSep_union (by decide)]
  rfl

theorem xC0_parity (fx : xM.view.ty.Contents (Elt F)) {i j : Fin 8} (hij : i.val % 2 = j.val % 2) (c : Dev nD) : xC0 fx i c = xC0 fx j c := by
  have e : xOff0 i c = xOff0 j c := by unfold xOff0; rw [hij]
  have gen : ∀ (o o' : Fin 2 → ℕ) (ho : ∀ a, o a + S512x512.size a ≤ S4096x512.size a) (ho' : ∀ a, o' a + S512x512.size a ≤ S4096x512.size a), o = o' →
      xM.view.readAt (Elt F) (Rect.unit (s := S4096x512) o S512x512.size ho).toLoadRect fx
        = xM.view.readAt (Elt F) (Rect.unit (s := S4096x512) o' S512x512.size ho').toLoadRect fx := by
    rintro o _ ho ho' rfl; rfl
  exact gen _ _ _ _ e

/-- The chunks a device starts the rings of either direction with. -/
theorem start_chunk (fx : xM.view.ty.Contents (Elt F)) (c : Dev nD) (i : Fin 8) :
    (if i.val % 2 = 0 then k0_pay2 (xC0 fx 0 c) else k0_pay2 (xC0 fx 1 c)) = k0_pay2 (xC0 fx i c) := by
  by_cases hi : i.val % 2 = 0
  · rw [if_pos hi, xC0_parity fx (i := 0) (j := i) hi.symm]
  · rw [if_neg hi, xC0_parity fx (i := 1) (j := i) (by show 1 % 2 = _; omega)]

theorem bodyP_step (c : Dev nD) (A : Fin 8 → Vec F S512x1024 .bf16) (U : Fin 8 → Vec F S512x1024 .f32)
    (fsx : sxM.view.ty.Contents (Elt F)) (fsw : swM.view.ty.Contents (Elt F)) (Q : PUnit → sProp 𝕄) :
    bodyPre X W K κ c A U fsx fsw ⊢ iprop((bodyPost X W c fsx fsw -∗ Q ⟨⟩) -∗ wpR c bodyP Q) := by
  have hring : bigSep Finset.univ (ringRes (F := F) c)
      = iprop((bigSep Finset.univ fun i => iprop(dutyTok ER (cell c (kSend i (sl 0))) 0 0 ∗ dutyTok ER (cell (fwdD i c) (kRecv i (sl 1))) 0 0 ∗ ringPos c i))
        ∗ (bigSep Finset.univ fun i => resFrom c i 0) ∗ bigSep Finset.univ (lastRes c)) := by
    have h1 : ∀ i, ringRes (F := F) c i = iprop(iprop(dutyTok ER (cell c (kSend i (sl 0))) 0 0 ∗ dutyTok ER (cell (fwdD i c) (kRecv i (sl 1))) 0 0 ∗ ringPos c i)
        ∗ iprop(resFrom c i 0 ∗ lastRes c i)) := fun i => by
      rw [resFrom_zero]
      unfold ringRes
      refine both_ways ?_ ?_
      · iintro ⟨H1, H2, H3, H4, H5⟩
        isplitl [H1 H2 H3]
        · isplitl [H1]; · iexact H1
          isplitl [H2] <;> iassumption
        isplitl [H4] <;> iassumption
      · iintro ⟨⟨H1, H2, H3⟩, H4, H5⟩
        isplitl [H1]; · iexact H1
        isplitl [H2]; · iexact H2
        isplitl [H3]; · iexact H3
        isplitl [H4] <;> iassumption
    rw [bigSep_congr fun i _ => h1 i]
    refine (BI.bigSep_sep ..).trans ?_
    exact congrArg (fun R => iprop((bigSep Finset.univ fun i => iprop(dutyTok ER (cell c (kSend i (sl 0))) 0 0 ∗ dutyTok ER (cell (fwdD i c) (kRecv i (sl 1))) 0 0 ∗ ringPos c i)) ∗ R))
      (BI.bigSep_sep ..)
  have hinit : bigSep Finset.univ (initRes (F := F) c)
      = iprop((bigSep Finset.univ fun i => slotE c i 0) ∗ (bigSep Finset.univ fun i => slotE (fwdD i c) i (sl 1))
        ∗ bigSep Finset.univ fun i => iprop(dutyTok ER (cell c (kSend i (sl 0))) 0 0 ∗ dutyTok ER (cell (fwdD i c) (kRecv i (sl 1))) 0 0 ∗ ringPos c i)) := by
    refine (BI.bigSep_sep ..).trans ?_
    exact congrArg (fun R => iprop((bigSep Finset.univ fun i => slotE (F := F) c i 0) ∗ R)) (BI.bigSep_sep ..)
  have hside : ∀ (x : Dev nD), bigSep (ringsTo false) (fun i => slotE (F := F) x i 1) = payK (SS X W) (rightD x) kBar 0 0 := fun x => by
    show _ = bigSep (ringsTo (decide ((0 : Fin 6) = 1))) fun i => slotE (nbr (decide ((0 : Fin 6) = 1)) (rightD x)) i 1
    rw [show decide ((0 : Fin 6) = 1) = false from rfl, show nbr false (rightD x) = x from left_right x]
  have hside' : ∀ (x : Dev nD), bigSep (ringsTo true) (fun i => slotE (F := F) x i 1) = payK (SS X W) (leftD x) kBar 0 1 := fun x => by
    show _ = bigSep (ringsTo (decide ((1 : Fin 6) = 1))) fun i => slotE (nbr (decide ((1 : Fin 6) = 1)) (leftD x)) i 1
    rw [show decide ((1 : Fin 6) = 1) = true from rfl, show nbr true (leftD x) = x from right_left x]
  have hgot : iprop(payK (SS X W) c kBar 0 0 ∗ payK (SS X W) c kBar 0 1) = (bigSep Finset.univ fun i => slotE (F := F) (fwdD i c) i (sl 1)) := by
    rw [slots_sides]
    have e0 : payK (SS X W) c kBar 0 0 = bigSep (ringsTo false) fun i => slotE (F := F) (fwdD i c) i (sl 1) :=
      bigSep_congr fun i hi => by rw [fwd_of_ringsTo hi]; rfl
    have e1 : payK (SS X W) c kBar 0 1 = bigSep (ringsTo true) fun i => slotE (F := F) (fwdD i c) i (sl 1) :=
      bigSep_congr fun i hi => by rw [fwd_of_ringsTo hi]; rfl
    rw [e0, e1]
  have hlast : ∀ Φ Ψ Θ : Fin 8 → sProp 𝕄, (bigSep Finset.univ fun i => iprop(Φ i ∗ Ψ i ∗ Θ i))
      = iprop((bigSep Finset.univ Φ) ∗ (bigSep Finset.univ Ψ) ∗ bigSep Finset.univ Θ) := fun Φ Ψ Θ =>
    (BI.bigSep_sep ..).trans (congrArg (fun R => iprop((bigSep Finset.univ Φ) ∗ R)) (BI.bigSep_sep ..))
  unfold bodyPre bodyPost shakeRes bodyP
  rw [hring, slots_sides fun i => slotE c i 1, hside, hside']
  simp only [wp_deviceId]
  iintro ⟨#Hctx, Ho, Hag, ⟨Hbc, Hba, Hbt1, Hbt0⟩, ⟨Hec, Hea, Het1, Het0⟩, ⟨Hrt, Hrr, Hrl⟩, Hs0, ⟨Hsf, Hst⟩, Hout, Hp, Hx, Hw, Hsx, Hsw⟩ Hk
  iapply (shakeP_step (S := SS X W) (K := K) (κ := κ) c kBar barS (fun _ => rfl) rfl rfl (O := remI c 0) (above_remI c 0) (show (1 : ℕ) < 2 by omega))
    $$ [Ho Hbc Hba Hbt1 Hbt0 Hsf Hst]
  · isplitr; · iexact Hctx
    isplitl [Ho]; · iexact Ho
    isplitl [Hbc]; · iexact Hbc
    isplitl [Hba]; · iexact Hba
    isplitl [Hbt1]; · iexact Hbt1
    isplitl [Hst]; · iexact Hst
    isplitl [Hbt0]; · iexact Hbt0
    iexact Hsf
  iintro ⟨Ho, Hba, Hsl⟩
  ihave Hsl := (Entails.of_eq hgot) $$ Hsl
  iapply (buf_load c xM _ (X c)) $$ Hx
  iintro Hx
  iapply (buf_load c xM _ (X c)) $$ Hx
  iintro Hx
  iapply (rings_steps c (fun i k => initP i c (if i.val % 2 = 0 then k0_pay2 (xC0 (X c) 0 c) else k0_pay2 (xC0 (X c) 1 c)) k) (initRes c) (fun i => hopSt c i 0)
    (fun n => iprop(ctx (SS X W) K κ ∗ ow c (remI c n) ∗ whole c wM (W c)))
    (fun i k Q => initP_step c i _ (W c) (by rw [pay11_eq, start_chunk]; rfl)) _ Q) $$ [Ho Hw Hs0 Hsl Hrt]
  · isplitl [Hs0 Hsl Hrt]
    · iapply (Entails.of_eq hinit.symm)
      isplitl [Hs0]; · iexact Hs0
      isplitl [Hsl]; · iexact Hsl
      iexact Hrt
    isplitr; · iexact Hctx
    isplitl [Ho]; · iexact Ho
    iexact Hw
  iintro ⟨Hst, -, Ho, Hw⟩
  iapply (prefetch_step c 0 (X c) (W c) A) $$ [Hx Hw Hp]
  · isplitl [Hx]; · iexact Hx
    isplitl [Hw]; · iexact Hw
    iexact Hp
  iintro ⟨Hx, Hw, Hp⟩
  iapply (fold_steps c (fun h k => roundP c h k) (roundSt X W K κ c) (fun h k Q => roundP_step X W c h k Q) _ Q) $$ [Ho Hag Hst Hrr Hx Hw Hp]
  · unfold roundSt owG
    isplitr; · iexact Hctx
    isplitl [Ho Hag]
    · isplitl [Ho]; · iapply (Entails.of_eq (congrArg (fun O => (ow c O : sProp 𝕄)) (remI_end c))); iexact Ho
      iexact Hag
    isplitl [Hst Hrr]
    · iapply (Entails.of_eq (BI.bigSep_sep' Finset.univ (fun i => hopSt (F := F) c i 0) (fun i => resFrom c i 0)).symm)
      isplitl [Hst]; · iexact Hst
      iexact Hrr
    isplitl [Hx]; · iexact Hx
    isplitl [Hw]; · iexact Hw
    iexact Hp
  unfold roundSt owG
  iintro ⟨-, ⟨Ho, Hag⟩, Hst, Hx, Hw, Hp⟩
  ihave Hst := (Entails.of_eq (BI.bigSep_sep' Finset.univ (fun i => hopSt (F := F) c i 6) (fun i => resFrom c i 6))) $$ Hst
  icases Hst with ⟨Hst, -⟩
  iapply (rings_steps c (fun i k => lastP i k) (fun i => iprop(hopSt c i 6 ∗ lastRes c i ∗ tile c oM (wR i) (U i)))
    (fun i => iprop(ringEnd c i ∗ tile c oM (wR i) (resV X W (scal sxM fsx) (scal swM fsw) c i)))
    (fun _ => iprop(ctx (SS X W) K κ ∗ ow c (rem c 48) ∗ parts c (PV (X c) (W c) c 6) ∗ whole c sxM fsx ∗ whole c swM fsw))
    (fun i k Q => lastP_step c i _ _ _ fsx fsw (fun v hv => by rw [pay162_eq, hv]; rfl)) _ Q) $$ [Ho Hst Hrl Hout Hp Hsx Hsw]
  · isplitl [Hst Hrl Hout]
    · iapply (Entails.of_eq (hlast (fun i => hopSt c i 6) (lastRes c) (fun i => tile c oM (wR i) (U i))).symm)
      isplitl [Hst]; · iexact Hst
      isplitl [Hrl]; · iexact Hrl
      iexact Hout
    isplitr; · iexact Hctx
    isplitl [Ho]; · iexact Ho
    isplitl [Hp]; · iexact Hp
    isplitl [Hsx]; · iexact Hsx
    iexact Hsw
  iintro ⟨Hend, -, Ho, Hp, Hsx, Hsw⟩
  ihave Hend := (Entails.of_eq (BI.bigSep_sep' Finset.univ (ringEnd (F := F) c) (fun i => tile c oM (wR i) (resV X W (scal sxM fsx) (scal swM fsw) c i)))) $$ Hend
  icases Hend with ⟨Hend, Hout⟩
  iapply (shakeP_step (S := SS X W) (K := K) (κ := κ) c kExit exitS (fun _ => rfl) rfl rfl (O := 0) (above_zero 1001) (show (1000 : ℕ) < 1001 by omega))
    $$ [Ho Hec Hea Het1 Het0]
  · isplitr; · iexact Hctx
    isplitl [Ho]; · iapply (Entails.of_eq (congrArg (fun O => (ow c O : sProp 𝕄)) ((rem_end c).trans (zero_add _).symm))); iexact Ho
    isplitl [Hec]; · iexact Hec
    isplitl [Hea]; · iexact Hea
    isplitl [Het1]; · iexact Het1
    isplitr; · iapply (Entails.of_eq (show iprop(emp) = payK (SS X W) (leftD c) kExit 0 1 from rfl)); iempintro
    isplitl [Het0]; · iexact Het0
    iapply (Entails.of_eq (show iprop(emp) = payK (SS X W) (rightD c) kExit 0 0 from rfl)); iempintro
  iintro ⟨Ho, Hea, -, -⟩
  simp only [wp_ret]
  imodintro
  iapply Hk
  isplitl [Ho]; · iexact Ho
  isplitl [Hba]; · iexact Hba
  isplitl [Hea]; · iexact Hea
  isplitl [Hend]; · iexact Hend
  isplitl [Hout]; · iexact Hout
  isplitl [Hp]; · iexact Hp
  isplitl [Hx]; · iexact Hx
  isplitl [Hw]; · iexact Hw
  isplitl [Hsx]; · iexact Hsx
  iexact Hsw

end Cert.KernelIdeal.Ring
-- ==== Proof.Split.lean ====
/- Whole buffers held tile by tile, and put together again. -/
module

public import proofs.«01_k».proof.Proof.Body
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig ℕ (Elt F) ℕ UU ℕ

section Tiles

variable {cs : CoreSpace} {s : Shape} {e : EltTy} {B : Type} [Fintype B] [DecidableEq B]

/-- Tiles over all of a whole buffer hold each of its elements. -/
theorem tiles_cover (m : Memref sig .tc cs s e) (hw : m.view.set = Finset.univ) (R : B → Rect s) (hc : ∀ x : s.Idx, ∃ b, x ∈ (R b).set) :
    Finset.univ.biUnion (fun b => m.view.setOn (R b).set) = Finset.univ := by
  refine Finset.eq_univ_iff_forall.mpr fun j => ?_
  obtain ⟨x, -, rfl⟩ := Finset.mem_map.mp (show j ∈ m.view.set from hw.symm ▸ Finset.mem_univ j)
  obtain ⟨b, hb⟩ := hc x
  exact Finset.mem_biUnion.mpr ⟨b, Finset.mem_univ b, (m.view.mem_setOn).mpr hb⟩

/-- A whole buffer is its tiles. -/
theorem tiles_split (c : Dev nD) (m : Memref sig .tc cs s e) (hw : m.view.set = Finset.univ) (R : B → Rect s)
    (hd : ∀ b b', b ≠ b' → Disjoint (R b).set (R b').set) (hc : ∀ x : s.Idx, ∃ b, x ∈ (R b).set) (f : Buf (Elt F) (m.view.loc (c : Thread nD τ))) :
    whole c m f ⊢ (bigSep Finset.univ fun b => tile c m (R b) (m.view.readAt (Elt F) (R b).toLoadRect f)) := by
  unfold whole tile
  rw [pointsTo_blocks (fun b => m.view.setOn (R b).set) (fun b b' h => View.disjoint_setOn _ (hd b b' h)) (tiles_cover m hw R hc) f]
  have h (b : B) : (m.view.loc (c : Thread nD τ) ↦[m.view.setOn (R b).set]{fullShare} f : sProp 𝕄)
      ⊢ iprop(∃ g : Buf (Elt F) (m.view.loc (c : Thread nD τ)), ⌜m.view.readAt (Elt F) (R b).toLoadRect g = m.view.readAt (Elt F) (R b).toLoadRect f⌝
          ∗ (m.view.loc (c : Thread nD τ) ↦[m.view.setOn (R b).set]{fullShare} g)) := by
    iintro H; iexists f
    isplitr; · ipureintro; rfl
    iexact H
  exact bigSep_mono fun b _ => h b

/-- Tiles over all of a whole buffer make it whole, reading under each what the tile read. -/
theorem tiles_join (c : Dev nD) (m : Memref sig .tc cs s e) (hw : m.view.set = Finset.univ) (R : B → Rect s)
    (hd : ∀ b b', b ≠ b' → Disjoint (R b).set (R b').set) (hc : ∀ x : s.Idx, ∃ b, x ∈ (R b).set) (V : (b : B) → (R b).shape.Idx → Elt F e)
    (f₀ : Buf (Elt F) (m.view.loc (c : Thread nD τ))) :
    (bigSep Finset.univ fun b => tile c m (R b) (V b))
      ⊢ (iprop(∃ f, ⌜∀ b, m.view.readAt (Elt F) (R b).toLoadRect f = V b⌝ ∗ whole c m f) : sProp 𝕄) := by
  have hne : Nonempty (Buf (Elt F) (m.view.loc (c : Thread nD τ))) := ⟨f₀⟩
  unfold whole tile
  iintro H
  ihave H := (BI.bigSep_exists_pi Finset.univ (fun b (f : Buf (Elt F) (m.view.loc (c : Thread nD τ))) =>
    (iprop(⌜m.view.readAt (Elt F) (R b).toLoadRect f = V b⌝ ∗ (m.view.loc (c : Thread nD τ) ↦[m.view.setOn (R b).set]{fullShare} f)) : sProp 𝕄))) $$ H
  icases H with ⟨%fs, H⟩
  ihave H := (bigSep_pure_sep Finset.univ (fun b => m.view.readAt (Elt F) (R b).toLoadRect (fs b) = V b) fun b =>
    (m.view.loc (c : Thread nD τ) ↦[m.view.setOn (R b).set]{fullShare} fs b : sProp 𝕄)) $$ H
  icases H with ⟨%hfs, H⟩
  ihave H := (pointsTo_biUnion_join Finset.univ (fun b => m.view.setOn (R b).set) fs f₀ (fun b _ b' _ h => View.disjoint_setOn _ (hd b b' h))) $$ H
  icases H with ⟨%g, %hg, H⟩
  iexists g
  isplitr
  · ipureintro
    intro b
    rw [← hfs b (Finset.mem_univ b)]
    funext x
    have hx := hg b (Finset.mem_univ b) (m.view.emb ((R b).toLoadRect.idx x)) ((m.view.mem_setOn).mpr ((R b).mem_set.mpr fun a => ⟨(x a).val, (x a).isLt, rfl⟩))
    rw [View.readAt_apply, View.readAt_apply, View.read_apply, View.read_apply, hx]
  · iapply (Entails.of_eq (congrArg (fun S => (m.view.loc (c : Thread nD τ) ↦[S]{fullShare} g : sProp 𝕄)) (tiles_cover m hw R hc)))
    iexact H

end Tiles

/-! ## The output -/

theorem wcol_val (i : Fin 8) : wcol i = 1024 * (4 * (i.val % 2) + i.val / 2) := by unfold wcol; omega

theorem wR_disj (i j : Fin 8) (h : i ≠ j) : Disjoint (wR i).set (wR j).set :=
  Rect.unit_disjoint (1 : Fin 2) (by
    have hv : i.val ≠ j.val := fun e => h (Fin.ext e)
    show wcol i + 1024 ≤ wcol j ∨ wcol j + 1024 ≤ wcol i
    rw [wcol_val, wcol_val]; omega)

/-- The ring whose tile a column of the output lies in. -/
def ringOf (q : ℕ) : ℕ := 2 * (q / 1024 % 4) + q / 4096

theorem wR_cover (x : S512x8192.Idx) : ∃ i, x ∈ (wR i).set := by
  have h0 : (x 0).val < 512 := (x 0).isLt
  have h1 : (x 1).val < 8192 := (x 1).isLt
  refine ⟨⟨ringOf (x 1).val, by unfold ringOf; omega⟩, Rect.mem_set_unit.mpr fun a => ?_⟩
  match a with
  | ⟨0, _⟩ => exact ⟨Nat.zero_le _, by show (x 0).val < 0 + 512; omega⟩
  | ⟨1, _⟩ =>
    show wcol _ ≤ (x 1).val ∧ (x 1).val < wcol _ + 1024
    rw [wcol_val]
    have e1 : ringOf (x 1).val % 2 = (x 1).val / 4096 := by unfold ringOf; omega
    have e2 : ringOf (x 1).val / 2 = (x 1).val / 1024 % 4 := by unfold ringOf; omega
    show 1024 * (4 * (ringOf (x 1).val % 2) + ringOf (x 1).val / 2) ≤ (x 1).val ∧ (x 1).val < 1024 * (4 * (ringOf (x 1).val % 2) + ringOf (x 1).val / 2) + 1024
    rw [e1, e2]; omega

/-! ## The partial products -/

theorem pcol_val (i : Fin 8) : pcol i = 1024 * (i.val / 2) := rfl

/-- The ring of each direction, counted within it. -/
def half (b : Fin 2) (j : Fin 4) : Fin 8 := ⟨2 * j.val + b.val, by omega⟩

theorem pR_disj (b : Fin 2) (i j : Fin 4) (h : i ≠ j) : Disjoint (pR (half b i)).set (pR (half b j)).set :=
  Rect.unit_disjoint (1 : Fin 2) (by
    have hv : i.val ≠ j.val := fun e => h (Fin.ext e)
    show pcol (half b i) + 1024 ≤ pcol (half b j) ∨ pcol (half b j) + 1024 ≤ pcol (half b i)
    rw [pcol_val, pcol_val]; unfold half; simp only; omega)

theorem pR_cover (b : Fin 2) (x : S512x4096.Idx) : ∃ i, x ∈ (pR (half b i)).set := by
  have h0 : (x 0).val < 512 := (x 0).isLt
  have h1 : (x 1).val < 4096 := (x 1).isLt
  refine ⟨⟨(x 1).val / 1024, by omega⟩, Rect.mem_set_unit.mpr fun a => ?_⟩
  match a with
  | ⟨0, _⟩ => exact ⟨Nat.zero_le _, by show (x 0).val < 0 + 512; omega⟩
  | ⟨1, _⟩ =>
    show pcol _ ≤ (x 1).val ∧ (x 1).val < pcol _ + 1024
    rw [pcol_val]; unfold half; simp only; omega

/-- The rings are the four of each direction. -/
theorem rings_halves (Φ : Fin 8 → sProp 𝕄) :
    bigSep Finset.univ Φ = iprop((bigSep Finset.univ fun j => Φ (half 0 j)) ∗ bigSep Finset.univ fun j => Φ (half 1 j)) := by
  let h0 : Fin 4 ↪ Fin 8 := ⟨half 0, by decide⟩
  let h1 : Fin 4 ↪ Fin 8 := ⟨half 1, by decide⟩
  have hu : (Finset.univ : Finset (Fin 8)) = Finset.univ.map h0 ∪ Finset.univ.map h1 := by decide
  rw [hu, BI.bigSep_union (by decide), BI.bigSep_map, BI.bigSep_map]
  rfl

theorem half0_even (j : Fin 4) : (half 0 j).val % 2 = 0 := by revert j; decide
theorem half1_odd (j : Fin 4) : ¬ (half 1 j).val % 2 = 0 := by revert j; decide
theorem pM_half0 (j : Fin 4) : pM (half 0 j) = prM := if_pos (half0_even j)
theorem pM_half1 (j : Fin 4) : pM (half 1 j) = plM := if_neg (half1_odd j)

/-- The two buffers of partial products are held ring by ring; -/
theorem parts_split (c : Dev nD) (f : Buf (Elt F) (prM.view.loc (c : Thread nD τ))) (g : Buf (Elt F) (plM.view.loc (c : Thread nD τ))) :
    iprop(whole c prM f ∗ whole c plM g) ⊢ (iprop(∃ A, parts c A) : sProp 𝕄) := by
  iintro ⟨Hf, Hg⟩
  ihave Hf := (tiles_split c prM (View.set_whole _) (fun j => pR (half 0 j)) (pR_disj 0) (pR_cover 0) f) $$ Hf
  ihave Hg := (tiles_split c plM (View.set_whole _) (fun j => pR (half 1 j)) (pR_disj 1) (pR_cover 1) g) $$ Hg
  iexists (fun i => if i.val % 2 = 0 then prM.view.readAt (Elt F) (pR i).toLoadRect f else plM.view.readAt (Elt F) (pR i).toLoadRect g)
  unfold parts
  iapply (Entails.of_eq (rings_halves _).symm)
  isplitl [Hf]
  · iapply (Entails.of_eq (bigSep_congr fun j _ => ?_)) $$ Hf
    rw [pM_half0]; exact congrArg _ (if_pos (half0_even j)).symm
  · iapply (Entails.of_eq (bigSep_congr fun j _ => ?_)) $$ Hg
    rw [pM_half1]; exact congrArg _ (if_neg (half1_odd j)).symm

/-- and put together again. -/
theorem parts_join (c : Dev nD) (A : Fin 8 → Vec F S512x1024 .bf16) (f₀ : Buf (Elt F) (prM.view.loc (c : Thread nD τ))) (g₀ : Buf (Elt F) (plM.view.loc (c : Thread nD τ))) :
    parts c A ⊢ (iprop((∃ f, whole c prM f) ∗ ∃ g, whole c plM g) : sProp 𝕄) := by
  unfold parts
  rw [rings_halves]
  refine BI.sep_mono ?_ ?_
  · refine (Entails.of_eq (show (bigSep Finset.univ fun j : Fin 4 => tile c (pM (half 0 j)) (pR (half 0 j)) (A (half 0 j)))
        = bigSep Finset.univ fun j : Fin 4 => tile c prM (pR (half 0 j)) (A (half 0 j)) from bigSep_congr fun j _ => by rw [pM_half0])).trans ?_
    refine (tiles_join c prM (View.set_whole _) (fun j => pR (half 0 j)) (pR_disj 0) (pR_cover 0) _ f₀).trans ?_
    iintro ⟨%f, -, H⟩; iexists f; iexact H
  · refine (Entails.of_eq (show (bigSep Finset.univ fun j : Fin 4 => tile c (pM (half 1 j)) (pR (half 1 j)) (A (half 1 j)))
        = bigSep Finset.univ fun j : Fin 4 => tile c plM (pR (half 1 j)) (A (half 1 j)) from bigSep_congr fun j _ => by rw [pM_half1])).trans ?_
    refine (tiles_join c plM (View.set_whole _) (fun j => pR (half 1 j)) (pR_disj 1) (pR_cover 1) _ g₀).trans ?_
    iintro ⟨%f, -, H⟩; iexists f; iexact H

/-! ## The slots -/

/-- The slots of the communication buffer, by ring and slot. -/
abbrev cRp (p : Fin 8 × Fin 2) : Rect S8x2x512x1024 := cR p.1 p.2

theorem cR_disj (p q : Fin 8 × Fin 2) (h : p ≠ q) : Disjoint (cRp p).set (cRp q).set := by
  by_cases h1 : p.1 = q.1
  · have h2 : p.2.val ≠ q.2.val := fun e => h (Prod.ext h1 (Fin.ext e))
    exact Rect.unit_disjoint (1 : Fin 4) (by show p.2.val + 1 ≤ q.2.val ∨ q.2.val + 1 ≤ p.2.val; omega)
  · have h2 : p.1.val ≠ q.1.val := fun e => h1 (Fin.ext e)
    exact Rect.unit_disjoint (0 : Fin 4) (by show p.1.val + 1 ≤ q.1.val ∨ q.1.val + 1 ≤ p.1.val; omega)

theorem cR_cover (x : S8x2x512x1024.Idx) : ∃ p, x ∈ (cRp p).set := by
  have h2 : (x 2).val < 512 := (x 2).isLt
  have h3 : (x 3).val < 1024 := (x 3).isLt
  refine ⟨(x 0, x 1), Rect.mem_set_unit.mpr fun a => ?_⟩
  match a with
  | ⟨0, _⟩ => exact ⟨le_rfl, Nat.lt_succ_self _⟩
  | ⟨1, _⟩ => exact ⟨le_rfl, Nat.lt_succ_self _⟩
  | ⟨2, _⟩ => exact ⟨Nat.zero_le _, by show (x 2).val < 0 + 512; omega⟩
  | ⟨3, _⟩ => exact ⟨Nat.zero_le _, by show (x 3).val < 0 + 1024; omega⟩

theorem slotE_eq (c : Dev nD) (i : Fin 8) (s : Fin 2) :
    slotE c i s = (iprop(∃ f, commM.view.loc (c : Thread nD τ) ↦[commM.view.setOn (cR i s).set]{fullShare} f) : sProp 𝕄) := by
  unfold slotE
  rw [slot_set]

/-- Both slots of every ring are all slots. -/
theorem slots_pairs (Φ : Fin 8 × Fin 2 → sProp 𝕄) :
    bigSep Finset.univ Φ = iprop((bigSep Finset.univ fun i => Φ (i, 0)) ∗ bigSep Finset.univ fun i => Φ (i, 1)) := by
  rw [BI.bigSep_univ_prod, ← BI.bigSep_sep']
  exact bigSep_congr fun i _ => bigSep_univ_eq_bigSepL [0, 1] (by decide) (by decide) _

/-- The communication buffer is held slot by slot; -/
theorem slots_split (c : Dev nD) (f : Buf (Elt F) (commM.view.loc (c : Thread nD τ))) :
    whole c commM f ⊢ (iprop((bigSep Finset.univ fun i => slotE c i 0) ∗ bigSep Finset.univ fun i => slotE c i 1) : sProp 𝕄) := by
  refine (Entails.of_eq (pointsTo_blocks (ℓ := commM.view.loc (c : Thread nD τ)) (fun p => commM.view.setOn (cRp p).set) (fun p q h => View.disjoint_setOn _ (cR_disj p q h))
    (tiles_cover commM (View.set_whole _) cRp cR_cover) f)).trans (BIBase.Entails.trans (bigSep_mono fun p _ => ?_) (Entails.of_eq (slots_pairs fun p => slotE c p.1 p.2)))
  show _ ⊢ slotE c p.1 p.2
  rw [slotE_eq]
  iintro H; iexists f; iexact H

/-- and put together again. -/
theorem slots_join (c : Dev nD) (f₀ : Buf (Elt F) (commM.view.loc (c : Thread nD τ))) :
    iprop((bigSep Finset.univ fun i => slotE c i 0) ∗ bigSep Finset.univ fun i => slotE c i 1) ⊢ (iprop(∃ f, whole c commM f) : sProp 𝕄) := by
  rw [← slots_pairs (fun p => slotE (F := F) c p.1 p.2)]
  refine (Entails.of_eq (bigSep_congr fun p _ => slotE_eq c p.1 p.2)).trans ?_
  exact pointsTo_blocks_join_exists (ℓ := commM.view.loc (c : Thread nD τ)) (fun p => commM.view.setOn (cRp p).set) (fun p q h => View.disjoint_setOn _ (cR_disj p q h))
    (tiles_cover commM (View.set_whole _) cRp cR_cover) f₀

end Cert.KernelIdeal.Ring
-- ==== Proof.Ghost.lean ====
/- The launch's ghost state: the cells and duty tokens minted, the invariants allocated, and each device's
   share of them sorted into what its body starts from. -/
module

public import proofs.«01_k».proof.Proof.Split
public import Idealize.ShloMosaic.Lib.Pipeline.Launch
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families split -/

theorem bs_sum {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ
theorem bs_prod {α β : Type} [Fintype α] [Fintype β] (Φ : α × β → sProp 𝕄) :
    bigSep Finset.univ Φ = bigSep Finset.univ fun a => bigSep Finset.univ fun b => Φ (a, b) := BI.bigSep_univ_prod Φ
theorem bs_swap {α β : Type} [Fintype α] [Fintype β] (Φ : α × β → sProp 𝕄) :
    bigSep Finset.univ Φ = bigSep Finset.univ fun b => bigSep Finset.univ fun a => Φ (a, b) := by
  rw [BI.bigSep_univ_equiv (Equiv.prodComm β α) Φ, bs_prod]; rfl
theorem bs_unit (Φ : Unit → sProp 𝕄) : bigSep Finset.univ Φ = Φ () := bigSep_singleton
theorem bs_bool (Φ : Bool → sProp 𝕄) : bigSep Finset.univ Φ = iprop(Φ true ∗ Φ false) :=
  bigSep_univ_eq_bigSepL [true, false] (by decide) (by decide) Φ
theorem bs_two (Φ : Fin 2 → sProp 𝕄) : bigSep Finset.univ Φ = iprop(Φ 0 ∗ Φ 1) :=
  bigSep_univ_eq_bigSepL [0, 1] (by decide) (by decide) Φ
theorem bs_mono {I : Type} {s : Finset I} {Φ Ψ : I → sProp 𝕄} (h : ∀ i, Φ i ⊢ Ψ i) : bigSep s Φ ⊢ bigSep s Ψ := bigSep_mono fun i _ => h i
/-- The first of seven hops and the six later ones. -/
theorem bs_seven (Φ : Fin 7 → sProp 𝕄) : bigSep Finset.univ Φ = iprop(Φ 0 ∗ bigSep Finset.univ fun h : Fin 6 => Φ h.succ) := by
  have hu : (Finset.univ : Finset (Fin 7)) = insert 0 (Finset.univ.map (Fin.succEmb 6)) := by decide
  rw [hu, BI.bigSep_insert (by decide), BI.bigSep_map]; rfl
/-- The six earlier of seven hops and the last. -/
theorem bs_seven_last (Φ : Fin 7 → sProp 𝕄) : bigSep Finset.univ Φ = iprop((bigSep Finset.univ fun h : Fin 6 => Φ h.castSucc) ∗ Φ 6) := by
  have hu : (Finset.univ : Finset (Fin 7)) = Finset.univ.map Fin.castSuccEmb ∪ {6} := by decide
  rw [hu, BI.bigSep_union (by decide), BI.bigSep_map, bigSep_singleton]; rfl

/-- A family over the protocol's kinds, ring by ring. -/
theorem kinds_rings (Φ : CK → sProp 𝕄) :
    bigSep Finset.univ Φ ⊣⊢ iprop(Φ kBar ∗ Φ kExit ∗ bigSep Finset.univ fun i : Fin 8 =>
      iprop(Φ (kSend i 0) ∗ Φ (kSend i 1) ∗ Φ (kRecv i 1) ∗ Φ (kRecv i 0) ∗ Φ (kCred i))) := by
  simp only [BI.bigSep_sep']
  rw [bs_sum, bs_unit, bs_sum, bs_sum, bs_unit, bs_prod, bs_bool]
  simp only [bs_swap, bs_two]
  constructor
  · iintro ⟨H1, ⟨⟨H2, H3⟩, H4, H5⟩, H6, H7⟩
    isplitl [H1]; · iexact H1
    isplitl [H7]; · iexact H7
    isplitl [H4]; · iexact H4
    isplitl [H5]; · iexact H5
    isplitl [H3]; · iexact H3
    isplitl [H2]; · iexact H2
    iexact H6
  · iintro ⟨H1, H7, H4, H5, H3, H2, H6⟩
    isplitl [H1]; · iexact H1
    isplitl [H2 H3 H4 H5]
    · isplitl [H2 H3]
      · isplitl [H2] <;> iassumption
      isplitl [H4] <;> iassumption
    isplitl [H6] <;> iassumption

/-! ## Cells and tokens -/

/-- A device's ghost cell, then its cells. -/
def gOf (p : Dev nD × (Unit ⊕ CK)) : GSem nD τ sig := match p.2 with
  | .inl _ => gcell p.1
  | .inr k => cell p.1 k
theorem gOf_inj : Function.Injective gOf := by
  rintro ⟨c, _ | k⟩ ⟨c', _ | k'⟩ h
  · have := gcell_inj h
    cases this; rfl
  · exact absurd (congrArg Prod.snd h).symm (semOf_ne_ghost k')
  · exact absurd (congrArg Prod.snd h) (semOf_ne_ghost k)
  · have := cell_inj (a₁ := (c, k)) (a₂ := (c', k')) h
    cases this; rfl

/-- A ring's duties a device pays: its departures, its arrivals, the grants it gives, the grants it takes. -/
abbrev RI := Fin 7 ⊕ Fin 7 ⊕ Fin 6 ⊕ Fin 6
/-- The duties a device pays: at both neighbours at both handshakes, and every ring's. -/
abbrev TI := (Bool × Bool) ⊕ (Fin 8 × RI)

/-- The token of a duty of ring `i`, by the cell's name. -/
def tokR (c : Dev nD) (i : Fin 8) : RI → (Dev nD × (Unit ⊕ CK)) × ℕ × Fin 6
  | .inl h => ((c, .inr (kSend i (sl h.val))), h.val / 2, 0)
  | .inr (.inl h) => ((fwdD i c, .inr (kRecv i (sl (h.val + 1)))), h.val / 2, 0)
  | .inr (.inr (.inl h)) => ((bwdD i c, .inr (kCred i)), 0, h)
  | .inr (.inr (.inr h)) => ((fwdD i c, .inl ()), 8 * h.val + i.val, 0)
/-- The token of a duty, by the cell's name. -/
def tokK (c : Dev nD) : TI → (Dev nD × (Unit ⊕ CK)) × ℕ × Fin 6
  | .inl (k, d) => ((nbr d c, .inr (if k then kExit else kBar)), 0, if d then 0 else 1)
  | .inr (i, t) => tokR c i t

theorem nbr_inj (b : Bool) {c c' : Dev nD} (h : nbr b c = nbr b c') : c = c' := by
  have := congrArg (nbr (!b)) h
  cases b
  · exact (right_left c).symm.trans (this.trans (right_left c'))
  · exact (left_right c).symm.trans (this.trans (left_right c'))
theorem fwd_inj (i : Fin 8) {c c' : Dev nD} (h : fwdD i c = fwdD i c') : c = c' := by
  rw [← bwd_fwd i c, h, bwd_fwd]
theorem bwd_inj (i : Fin 8) {c c' : Dev nD} (h : bwdD i c = bwdD i c') : c = c' := by
  rw [← fwd_bwd i c, h, fwd_bwd]

theorem sl_inj {h h' : ℕ} (h1 : sl h = sl h') (h2 : h / 2 = h' / 2) : h = h' := by
  have := Fin.ext_iff.mp h1; simp only at this; omega

theorem tokK_inj : Function.Injective fun p : Dev nD × TI => tokK p.1 p.2 := by
  rintro ⟨c, ⟨k, d⟩ | ⟨i, h | h | h | h⟩⟩ ⟨c', ⟨k', d'⟩ | ⟨i', h' | h' | h' | h'⟩⟩ e
  all_goals simp only [tokK, tokR, Prod.mk.injEq, Sum.inr.injEq, Sum.inl.injEq, reduceCtorEq, and_false, false_and, and_true, _root_.true_and] at e
  · obtain ⟨⟨e1, e2⟩, e3⟩ := e
    obtain rfl : d = d' := by cases d <;> cases d' <;> first | rfl | exact absurd e3 (by decide)
    obtain rfl : k = k' := by cases k <;> cases k' <;> first | rfl | exact absurd e2 (by decide)
    rw [nbr_inj d e1]
  all_goals first | (exfalso; revert e; cases k <;> simp; done) | (exfalso; revert e; cases k' <;> simp; done) | skip
  · obtain ⟨⟨rfl, rfl, e1⟩, e2⟩ := e
    obtain rfl := Fin.ext (sl_inj e1 e2); rfl
  · obtain ⟨⟨e0, rfl, e1⟩, e2⟩ := e
    obtain rfl : h = h' := Fin.ext (by have := sl_inj (h := h.val + 1) (h' := h'.val + 1) e1 (by have := Fin.ext_iff.mp e1; simp only at this; omega); omega)
    rw [fwd_inj i e0]
  · obtain ⟨⟨e0, rfl⟩, rfl⟩ := e
    rw [bwd_inj i e0]
  · obtain ⟨e0, e1⟩ := e
    obtain rfl : i = i' := Fin.ext (by omega)
    obtain rfl : h = h' := Fin.ext (by omega)
    rw [fwd_inj i e0]

/-- A token by its cell. -/
def tokAt (x : (Dev nD × (Unit ⊕ CK)) × ℕ × Fin 6) : GSem nD τ sig × ℕ × Fin 6 := (gOf x.1, x.2)
theorem tokAt_inj : Function.Injective tokAt := fun x y h => by
  simp only [tokAt, Prod.mk.injEq] at h
  exact Prod.ext (gOf_inj h.1) h.2

def ringCells : Finset (GSem nD τ sig) := Finset.univ.map ⟨gOf, gOf_inj⟩
def ringToks : Finset (GSem nD τ sig × ℕ × Fin 6) := Finset.univ.map ⟨fun p : Dev nD × TI => tokAt (tokK p.1 p.2), tokAt_inj.comp tokK_inj⟩

/-- The token of a duty. -/
def tokOf (c : Dev nD) (t : TI) : sProp 𝕄 := dutyTok ER (gOf (tokK c t).1) (tokK c t).2.1 (tokK c t).2.2
/-- A device's positions, all at the start, and the tokens of the duties it pays. -/
def lin (c : Dev nD) : sProp 𝕄 :=
  iprop((bigSep Finset.univ fun k : Unit ⊕ CK => atPos ER (gOf (c, k)) 0 ∅ 0) ∗ bigSep Finset.univ (tokOf c))

variable (S : Fin 8 → Dev nD → ℕ → Vec F S512x1024 .bf16)

/-- What the launch deals device `c`. -/
def G (c : Dev nD) : sProp 𝕄 :=
  iprop(roundAuth ER (gcell c) 0 ∅ 0 ∗ (bigSep Finset.univ fun k : CK => roundState ER (Rd S) (cell c k) 0)
    ∗ (bigSep Finset.univ fun k : CK => reached ER (cell c k) 0) ∗ lin c)

theorem fund_ring : BI.own (ER (initOf ringCells ringToks)) ⊢ (|==> bigSep Finset.univ (G (F := F) S) : sProp 𝕄) := by
  have hX (Φ : GSem nD τ sig → sProp 𝕄) : bigSep ringCells Φ = bigSep Finset.univ fun c : Dev nD => bigSep Finset.univ fun k : Unit ⊕ CK => Φ (gOf (c, k)) := by
    unfold ringCells; rw [BI.bigSep_map, bs_prod]; rfl
  have hX' (Φ : GSem nD τ sig → sProp 𝕄) : bigSep ringCells Φ = iprop((bigSep Finset.univ fun c : Dev nD => Φ (gcell c))
      ∗ bigSep Finset.univ fun c : Dev nD => bigSep Finset.univ fun k : CK => Φ (cell c k)) := by
    rw [hX, ← BI.bigSep_sep']
    exact bigSep_congr fun c _ => by rw [bs_sum, bs_unit]; rfl
  have hT : bigSep ringToks (fun x => (dutyTok ER x.1 x.2.1 x.2.2 : sProp 𝕄)) = bigSep Finset.univ fun c : Dev nD => bigSep Finset.univ (tokOf c) := by
    unfold ringToks; rw [BI.bigSep_map, bs_prod]; rfl
  iintro HX
  imod (Rounds.fund_init ER ringCells ringToks) $$ HX with ⟨Hst, Hr, Hat, Htok⟩
  imodintro
  ihave Hst := (Entails.of_eq (hX' fun g => initState ER g)) $$ Hst
  icases Hst with ⟨Hg, Hst⟩
  ihave Hg := (bs_mono fun c => show initState ER (gcell c) ⊢ (roundAuth ER (gcell c) 0 ∅ 0 : sProp 𝕄) from by
    iintro ⟨H, -⟩; iexact H) $$ Hg
  ihave Hst := (bs_mono fun c => bs_mono fun k => roundState_init ER (Rd S) (g := cell c k)) $$ Hst
  ihave Hat := (Entails.of_eq (hX fun g => atPos ER g 0 ∅ 0)) $$ Hat
  ihave Hr := (Entails.of_eq (hX' fun g => reached ER g 0)) $$ Hr
  icases Hr with ⟨-, Hr⟩
  ihave Htok := (Entails.of_eq hT) $$ Htok
  unfold G lin
  simp only [BI.bigSep_sep']
  isplitl [Hg]; · iexact Hg
  isplitl [Hst]; · iexact Hst
  isplitl [Hr]; · iexact Hr
  isplitl [Hat] <;> iassumption

/-! ## The invariants -/

/-- What every device knows of the others' cells, without the levels. -/
def know (K : Dev nD × CK → ℕ) (κ : Dev nD → ℕ) : sProp 𝕄 :=
  iprop((bigSep Finset.univ fun p : Dev nD × CK => cellInv ER (Rd S) (K p) (cell p.1 p.2))
    ∗ (bigSep Finset.univ fun c : Dev nD => inv (κ c) (grants c))
    ∗ (bigSep Finset.univ fun p : Dev nD × CK => reached ER (cell p.1 p.2) 0))

instance know_persistent (K : Dev nD × CK → ℕ) (κ : Dev nD → ℕ) : BI.Persistent (know (F := F) S K κ) := by unfold know; infer_instance

/-- A device's share of the launch. -/
def G' (c : Dev nD) : sProp 𝕄 := iprop(∃ K κ, know S K κ ∗ lin c)

theorem unscoped_eq : (Finset.univ.filter fun sm : SemLoc sig => ¬ sm.isScoped .tc) = {SemLoc.reg barS} := by decide

/-- A device's semaphores at zero are its cells' counters. -/
theorem sems0_eq (c : Dev nD) :
    (bigSep Finset.univ fun k : CK => semVal (cell c k) 0)
      = (iprop(unscopedSems0 c ∗ Pipeline.ownSems0 (Ix := ℕ) (Name := ℕ) (U := UU) (Lvl := ℕ) (Val := Elt F) (τ := τ) ownSem c) : sProp 𝕄) := by
  unfold unscopedSems0 Pipeline.ownSems0
  rw [bs_sum, bs_unit, unscoped_eq, bigSep_singleton]
  rfl

theorem core_alloc (c : Dev nD) :
    iprop(Pipeline.ownSems0 (Ix := ℕ) (Name := ℕ) (U := UU) (Lvl := ℕ) (Val := Elt F) (τ := τ) ownSem c ∗ unscopedSems0 c ∗ G S c)
      ⊢ |={Set.univ}=> iprop((bigSep Finset.univ fun k : CK => iprop(∃ K : ℕ, cellInv ER (Rd S) K (cell c k)))
          ∗ (∃ κ : ℕ, inv κ (grants c)) ∗ (bigSep Finset.univ fun k : CK => reached ER (cell c k) 0) ∗ lin c) := by
  unfold G
  iintro ⟨Hos, Hus, Hg, Hst, Hr, Hl⟩
  ihave Hv := (Entails.of_eq (sems0_eq (F := F) c).symm) $$ [Hos Hus]
  · isplitl [Hus] <;> iassumption
  imod (show iprop((bigSep Finset.univ fun k : CK => semVal (cell c k) 0) ∗ bigSep Finset.univ fun k : CK => roundState ER (Rd S) (cell c k) 0)
      ⊢ (|={Set.univ}=> bigSep Finset.univ fun k : CK => iprop(∃ K : ℕ, cellInv ER (Rd S) K (cell c k)) : sProp 𝕄) from by
        rw [← BI.bigSep_sep']
        exact (bigSep_mono fun k _ => (Rounds.body_intro ER (Rd S) (cell c k)).trans inv_alloc).trans (BI.bigSep_fupd _ _)) $$ [Hv Hst] with Hinv
  · isplitl [Hv] <;> iassumption
  imod ((grants_intro (F := F) c).trans inv_alloc) $$ Hg with Hgi
  imodintro
  isplitl [Hinv]; · iexact Hinv
  isplitl [Hgi]; · iexact Hgi
  isplitl [Hr]; · iexact Hr
  iexact Hl

theorem bs_persistent {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ :=
  (sep_mono_left (BI.bigSep_of_persistent s R)).trans (by rw [← BI.bigSep_sep']; exact bigSep_mono h)

theorem regroup :
    (bigSep Finset.univ fun c : Dev nD => iprop((bigSep Finset.univ fun k : CK => iprop(∃ K : ℕ, cellInv ER (Rd S) K (cell c k)))
          ∗ (∃ κ : ℕ, inv κ (grants c)) ∗ (bigSep Finset.univ fun k : CK => reached ER (cell c k) 0) ∗ lin c) : sProp 𝕄)
      ⊢ bigSep Finset.univ (G' (F := F) S) := by
  haveI := Classical.decEq (Dev nD × CK)
  rw [BI.bigSep_sep', BI.bigSep_sep', BI.bigSep_sep', ← bs_prod (fun p : Dev nD × CK => iprop(∃ K : ℕ, cellInv ER (Rd (F := F) S) K (cell p.1 p.2))),
    ← bs_prod (fun p : Dev nD × CK => (reached ER (cell p.1 p.2) 0 : sProp 𝕄))]
  iintro ⟨HI, Hg, #HR, Hl⟩
  ihave HK := (BI.bigSep_exists_pi Finset.univ (fun (p : Dev nD × CK) (K : ℕ) => (cellInv ER (Rd S) K (cell p.1 p.2) : sProp 𝕄))) $$ HI
  icases HK with ⟨%K, #HI⟩
  ihave Hκ := (BI.bigSep_exists_pi Finset.univ (fun (c : Dev nD) (κ : ℕ) => (inv κ (grants c) : sProp 𝕄))) $$ Hg
  icases Hκ with ⟨%κ, #Hg⟩
  iapply (bs_persistent (R := know S K κ) (Φ := lin) fun c _ => by unfold G'; iintro ⟨H1, H2⟩; iexists K; iexists κ; isplitl [H1] <;> iassumption)
  isplitr
  · unfold know
    isplitr; · iexact HI
    isplitr; · iexact Hg
    iexact HR
  · iexact Hl

/-- The launch's one step: every device's semaphores made into cells. -/
theorem glob : (bigSep Finset.univ fun c => iprop(Pipeline.ownSems0 (Ix := ℕ) (Name := ℕ) (U := UU) (Lvl := ℕ) (Val := Elt F) (τ := τ) ownSem c ∗ unscopedSems0 c ∗ G S c) : sProp 𝕄)
    ⊢ |={Set.univ}=> bigSep Finset.univ (G' (F := F) S) :=
  ((bigSep_mono fun c _ => core_alloc S c).trans (BI.bigSep_fupd _ _)).trans (BI.fupd_mono (regroup S))

end Cert.KernelIdeal.Ring
-- ==== Proof.Sort.lean ====
/- A device's share of the launch sorted into what its body starts from, and its cells closed at the end. -/
module

public import proofs.«01_k».proof.Proof.Ghost

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The launch's credit -/

/-- The credits of ring `i` a device is paid by its neighbours. -/
def ringCredits (c : Dev nD) (i : Fin 8) : sProp 𝕄 :=
  iprop((bigSep Finset.univ fun h : Fin 7 => cred (tallyAt (cell c (kRecv i (sl (h.val + 1)))) (h.val / 2) N))
    ∗ bigSep Finset.univ fun h : Fin 6 => cred (tallyAt (cell c (kCred i)) h.val 1))
/-- The credits a device is paid by its neighbours. -/
def credits (c : Dev nD) : sProp 𝕄 :=
  iprop(cred (tallyAt (cell c kBar) 0 2) ∗ cred (tallyAt (cell c kExit) 0 2) ∗ bigSep Finset.univ (ringCredits c))

theorem shake_credit (c : Dev nD) (k : CK) : (Pipeline.launchCred (tS k) c : sProp 𝕄) ⊢ cred (tallyAt (cell c k) 0 2) := by
  rw [show tS k = fun d => tallyAt (cell (rightD d) k) 0 1 + tallyAt (cell (leftD d) k) 0 1 from rfl, Pipeline.launchCred_add]
  iintro ⟨H1, H2⟩
  ihave H1 := (Pipeline.launchCred_tallyAt (semOf k) rightD leftD right_left left_right 0 1 c) $$ H1
  ihave H2 := (Pipeline.launchCred_tallyAt (semOf k) leftD rightD left_right right_left 0 1 c) $$ H2
  have e : (tallyAt (cell c k) 0 2 : CellTallies nD τ sig ℕ) = tallyAt (cell c k) 0 1 + tallyAt (cell c k) 0 1 := by
    unfold tallyAt
    rw [← tallyOn_add, ← Finsupp.single_add]
  rw [e]
  iapply (cred_add _ _).2
  isplitl [H1] <;> iassumption

theorem recv_credit (c : Dev nD) (i : Fin 8) (h : ℕ) : (Pipeline.launchCred (tR h i) c : sProp 𝕄) ⊢ cred (tallyAt (cell c (kRecv i (sl (h + 1)))) (h / 2) N) :=
  Pipeline.launchCred_tallyAt (semOf (kRecv i (sl (h + 1)))) (fwdD i) (bwdD i) (fwd_bwd i) (bwd_fwd i) (h / 2) N c
theorem grant_credit (c : Dev nD) (i : Fin 8) (h : ℕ) : (Pipeline.launchCred (tC h i) c : sProp 𝕄) ⊢ cred (tallyAt (cell c (kCred i)) h 1) :=
  Pipeline.launchCred_tallyAt (semOf (kCred i)) (bwdD i) (fwdD i) (bwd_fwd i) (fwd_bwd i) h 1 c
theorem step_credit (c : Dev nD) (p : Fin 6 × Fin 8) : (Pipeline.launchCred (stepO p) c : sProp 𝕄)
    ⊢ iprop(cred (tallyAt (cell c (kRecv p.2 (sl (p.1.succ.val + 1)))) (p.1.succ.val / 2) N) ∗ cred (tallyAt (cell c (kCred p.2)) p.1.val 1)) := by
  rw [show stepO p = fun d => tR (p.1.val + 1) p.2 d + tC p.1.val p.2 d from rfl, Pipeline.launchCred_add]
  exact BI.sep_mono (recv_credit c p.2 (p.1.val + 1)) (grant_credit c p.2 p.1.val)

/-- What the neighbours owe at launch is what a device is credited. -/
theorem credits_intro (c : Dev nD) : (Pipeline.launchCred O₀ c : sProp 𝕄) ⊢ credits c := by
  have e1 : stepsFrom 0 = Finset.univ := Finset.filter_true_of_mem fun _ _ => Nat.zero_le _
  have e2 : ringsFrom 0 = Finset.univ := Finset.filter_true_of_mem fun _ _ => Nat.zero_le _
  have e : O₀ = fun d => ((tS kExit d + ∑ p ∈ Finset.univ, stepO p d) + ∑ i ∈ Finset.univ, tR 0 i d) + tS kBar d := by
    funext d; unfold O₀ remI rem; rw [e1, e2]
  rw [e, Pipeline.launchCred_add (fun d => (tS kExit d + ∑ p ∈ Finset.univ, stepO p d) + ∑ i ∈ Finset.univ, tR 0 i d) (tS kBar),
    Pipeline.launchCred_add (fun d => tS kExit d + ∑ p ∈ Finset.univ, stepO p d) (fun d => ∑ i ∈ Finset.univ, tR 0 i d),
    Pipeline.launchCred_add (tS kExit) (fun d => ∑ p ∈ Finset.univ, stepO p d), Pipeline.launchCred_sum, Pipeline.launchCred_sum]
  unfold credits ringCredits
  iintro ⟨⟨⟨He, Hs⟩, Hi⟩, Hb⟩
  isplitl [Hb]; · iapply (shake_credit c kBar); iexact Hb
  isplitl [He]; · iapply (shake_credit c kExit); iexact He
  ihave Hs := (bs_mono (step_credit c)) $$ Hs
  ihave Hs := (Entails.of_eq (bs_swap _)) $$ Hs
  ihave Hi := (bs_mono fun i => recv_credit c i 0) $$ Hi
  simp only [bs_seven, BI.bigSep_sep']
  icases Hs with ⟨Hs1, Hs2⟩
  isplitl [Hi Hs1]
  · isplitl [Hi]; · iexact Hi
    iexact Hs1
  iexact Hs2

/-! ## Sorting -/

theorem ring_sort (c : Dev nD) (i : Fin 8) :
    iprop((atPos ER (cell c (kSend i 0)) 0 ∅ 0 ∗ atPos ER (cell c (kSend i 1)) 0 ∅ 0 ∗ atPos ER (cell c (kRecv i 1)) 0 ∅ 0
          ∗ atPos ER (cell c (kRecv i 0)) 0 ∅ 0 ∗ atPos ER (cell c (kCred i)) 0 ∅ 0)
        ∗ (bigSep Finset.univ fun t : RI => tokOf c (.inr (i, t))) ∗ ringCredits c i)
      ⊢ (ringRes c i : sProp 𝕄) := by
  unfold ringRes ringPos hopRes lastRes ringCredits
  rw [bs_sum, bs_sum, bs_sum, bs_seven, bs_seven, bs_seven_last]
  simp only [BI.bigSep_sep']
  iintro ⟨Hat, ⟨⟨Hs0, Hs⟩, ⟨Hr0, Hr⟩, Hc, Hg⟩, ⟨Hcr, Hcl⟩, Hcc⟩
  isplitl [Hs0]
  · iapply (Entails.of_eq (show tokOf c (.inr (i, .inl 0)) = dutyTok ER (cell c (kSend i (sl 0))) 0 0 from rfl)); iexact Hs0
  isplitl [Hr0]
  · iapply (Entails.of_eq (show tokOf c (.inr (i, .inr (.inl 0))) = dutyTok ER (cell (fwdD i c) (kRecv i (sl 1))) 0 0 from rfl)); iexact Hr0
  isplitl [Hat]; · iexact Hat
  isplitr [Hcl]
  · isplitl [Hc]; · iexact Hc
    isplitl [Hs]; · iexact Hs
    isplitl [Hr]; · iexact Hr
    isplitl [Hg]; · iexact Hg
    isplitl [Hcr]; · iexact Hcr
    iexact Hcc
  · iexact Hcl

/-- A device's positions, tokens and credits are what its body brings to the handshakes and the rings. -/
theorem sort (c : Dev nD) :
    iprop(lin c ∗ credits c)
      ⊢ (iprop(atPos ER (gcell c) 0 ∅ 0 ∗ shakeRes c kBar ∗ shakeRes c kExit ∗ bigSep Finset.univ (ringRes c)) : sProp 𝕄) := by
  unfold lin credits
  rw [bs_sum, bs_unit, bs_sum (tokOf c), bs_prod fun p : Bool × Bool => tokOf c (.inl p), bs_bool, bs_bool, bs_bool, bs_prod]
  iintro ⟨⟨⟨Hg, Hat⟩, ⟨⟨He1, He0⟩, ⟨Hb1, Hb0⟩⟩, Ht⟩, Hcb, Hce, Hc⟩
  ihave Hat := (Entails.of_eq (show (bigSep Finset.univ fun k : CK => (atPos ER (gOf (c, .inr k)) 0 ∅ 0 : sProp 𝕄)) = bigSep Finset.univ fun k : CK => atPos ER (cell c k) 0 ∅ 0 from rfl)) $$ Hat
  ihave Hat := (kinds_rings (fun k : CK => (atPos ER (cell c k) 0 ∅ 0 : sProp 𝕄))).1 $$ Hat
  icases Hat with ⟨Hab, Hae, Hat⟩
  unfold shakeRes
  isplitl [Hg]; · iexact Hg
  isplitl [Hcb Hab Hb0 Hb1]
  · isplitl [Hcb]; · iexact Hcb
    isplitl [Hab]; · iexact Hab
    isplitl [Hb0]
    · iapply (Entails.of_eq (show tokOf c (.inl (false, false)) = dutyTok ER (cell (leftD c) kBar) 0 1 from rfl)); iexact Hb0
    iapply (Entails.of_eq (show tokOf c (.inl (false, true)) = dutyTok ER (cell (rightD c) kBar) 0 0 from rfl)); iexact Hb1
  isplitl [Hce Hae He0 He1]
  · isplitl [Hce]; · iexact Hce
    isplitl [Hae]; · iexact Hae
    isplitl [He0]
    · iapply (Entails.of_eq (show tokOf c (.inl (true, false)) = dutyTok ER (cell (leftD c) kExit) 0 1 from rfl)); iexact He0
    iapply (Entails.of_eq (show tokOf c (.inl (true, true)) = dutyTok ER (cell (rightD c) kExit) 0 0 from rfl)); iexact He1
  iapply (bs_mono (ring_sort c))
  simp only [BI.bigSep_sep']
  icases Hat with ⟨H1, H2, H3, H4, H5⟩
  isplitl [H1 H2 H3 H4 H5]
  · isplitl [H1]; · iexact H1
    isplitl [H2]; · iexact H2
    isplitl [H3]; · iexact H3
    isplitl [H4]; · iexact H4
    iexact H5
  isplitl [Ht]; · iexact Ht
  iexact Hc

/-! ## Closing -/

variable {S : Fin 8 → Dev nD → ℕ → Vec F S512x1024 .bf16} {K : Dev nD × CK → ℕ} {κ : Dev nD → ℕ}

/-- A cell past its last duty gives its counter back at zero. -/
theorem close_at (c : Dev nD) (k : CK) {R : ℕ} (hR : ∀ r, R ≤ r → dutK k r = ∅) :
    iprop(ctx S K κ ∗ atPos ER (cell c k) R ∅ 0) ⊢ (iprop(|={Set.univ}=> semVal (cell c k) 0) : sProp 𝕄) := by
  iintro ⟨Hctx, Hat⟩
  iapply (Rounds.cell_close ER (Rd S) (Set.mem_univ (K (c, k))) (fun h => h) (R := R) (fun r hr => (duties_cell S c k r).trans (hR r hr)))
  isplitl [Hctx]
  · iapply (ctx_cell c k); iexact Hctx
  iexact Hat

/-- A grant cell all of whose grants have arrived gives its counter back at zero. -/
theorem close_grants (c : Dev nD) (i : Fin 8) :
    iprop(ctx S K κ ∗ credSt c i 6) ⊢ (iprop(|={Set.univ}=> semVal (cell c (kCred i)) 0) : sProp 𝕄) := by
  unfold credSt
  iintro ⟨#Hctx, %T, %hT, Hat, -⟩
  obtain rfl : T = Finset.univ := Finset.eq_univ_of_card T (le_antisymm (Finset.card_le_univ T) hT)
  imod (Rounds.fupd_skip ER (Rd S) (κ := K (c, kCred i)) (g := cell c (kCred i)) (R := 0) (m := 6) (T := Finset.univ) (Finset.subset_univ _)
    ((expect_cell S c (kCred i) 0).symm) (Set.mem_univ _)) $$ [Hat] with ⟨Hat, -⟩
  · isplitr; · iapply (ctx_cell c (kCred i)); iexact Hctx
    iexact Hat
  iapply (close_at c (kCred i) (R := 1) (fun r hr => if_neg (by omega)))
  isplitr; · iexact Hctx
  iexact Hat

theorem past_hops (b : Bool) (i : Fin 8) (s : Fin 2) {R : ℕ} (h : 6 < hopOf b s R) (r : ℕ) (hr : R ≤ r) : dutK (.inr (.inl (b, i, s))) r = ∅ :=
  if_neg (by unfold hopOf at h ⊢; omega)

/-- A ring's cells closed at the end. -/
theorem ring_close (c : Dev nD) (i : Fin 8) :
    iprop(ctx S K κ ∗ ringEnd c i) ⊢ (iprop(|={Set.univ}=> ((slotE c i 0 ∗ slotE c i 1)
      ∗ (semVal (cell c (kSend i 0)) 0 ∗ semVal (cell c (kSend i 1)) 0 ∗ semVal (cell c (kRecv i 1)) 0 ∗ semVal (cell c (kRecv i 0)) 0 ∗ semVal (cell c (kCred i)) 0))) : sProp 𝕄) := by
  unfold ringEnd
  iintro ⟨#Hctx, H0, H1, Ha, Hb, Hc, Hd, He⟩
  imod (close_at (S := S) (K := K) (κ := κ) c (kSend i 0) (R := 4) (past_hops false i 0 (by decide))) $$ [Ha] with Ha
  · isplitr; · iexact Hctx
    iexact Ha
  imod (close_at (S := S) (K := K) (κ := κ) c (kSend i 1) (R := 3) (past_hops false i 1 (by decide))) $$ [Hb] with Hb
  · isplitr; · iexact Hctx
    iexact Hb
  imod (close_at (S := S) (K := K) (κ := κ) c (kRecv i 1) (R := 4) (past_hops true i 1 (by decide))) $$ [Hc] with Hc
  · isplitr; · iexact Hctx
    iexact Hc
  imod (close_at (S := S) (K := K) (κ := κ) c (kRecv i 0) (R := 3) (past_hops true i 0 (by decide))) $$ [Hd] with Hd
  · isplitr; · iexact Hctx
    iexact Hd
  imod (close_grants (S := S) (K := K) (κ := κ) c i) $$ [He] with He
  · isplitr; · iexact Hctx
    iexact He
  imodintro
  isplitl [H0 H1]
  · isplitl [H0] <;> iassumption
  isplitl [Ha]; · iexact Ha
  isplitl [Hb]; · iexact Hb
  isplitl [Hc]; · iexact Hc
  isplitl [Hd]; · iexact Hd
  iexact He

/-- All of a device's cells closed at the end, and its slots. -/
theorem close_all (c : Dev nD) :
    iprop(ctx S K κ ∗ atPos ER (cell c kBar) 1 ∅ 0 ∗ atPos ER (cell c kExit) 1 ∅ 0 ∗ bigSep Finset.univ (ringEnd c))
      ⊢ (iprop(|={Set.univ}=> (((bigSep Finset.univ fun i => slotE c i 0) ∗ bigSep Finset.univ fun i => slotE c i 1)
        ∗ unscopedSems0 c ∗ Pipeline.ownSems0 (Ix := ℕ) (Name := ℕ) (U := UU) (Lvl := ℕ) (Val := Elt F) (τ := τ) ownSem c)) : sProp 𝕄) := by
  iintro ⟨#Hctx, Hb, He, Hr⟩
  imod (close_at (S := S) (K := K) (κ := κ) c kBar (R := 1) (fun r hr => if_neg (by omega))) $$ [Hb] with Hb
  · isplitr; · iexact Hctx
    iexact Hb
  imod (close_at (S := S) (K := K) (κ := κ) c kExit (R := 1) (fun r hr => if_neg (by omega))) $$ [He] with He
  · isplitr; · iexact Hctx
    iexact He
  ihave Hr := (bs_persistent (R := ctx S K κ) (Φ := ringEnd c) (fun i _ => ring_close c i)) $$ [Hr]
  · isplitr; · iexact Hctx
    iexact Hr
  imod (BI.bigSep_fupd _ _) $$ Hr with Hr
  imodintro
  ihave Hr := (Entails.of_eq (BI.bigSep_sep' _ _ _)) $$ Hr
  icases Hr with ⟨Hs, Hr⟩
  ihave Hs := (Entails.of_eq (BI.bigSep_sep' _ _ _)) $$ Hs
  isplitl [Hs]; · iexact Hs
  iapply (Entails.of_eq (sems0_eq (F := F) c))
  iapply (kinds_rings (fun k : CK => semVal (cell c k) 0)).2
  isplitl [Hb]; · iexact Hb
  isplitl [He]; · iexact He
  iexact Hr

end Cert.KernelIdeal.Ring
-- ==== Proof.Run.lean ====
/- The run of all devices: the pipeline's data, the body's obligation, the launch. -/
module

public import proofs.«01_k».proof.Proof.Sort
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The state @main starts from. -/
def s₀ : MemSt nD τ sig (Elt F) := ⟨m, fun _ => 0, ρ⟩

/-! ## Contents -/

/-- Device `c`'s `x` shard, staged. -/
def xC' (c : Dev nD) : xM.view.ty.Contents (Elt F) := (win0_2.blk t0_0).view.read (Elt F) (m ((c : Thread nD τ).loc main_arg0))
/-- Device `c`'s weight shard, staged. -/
def wC' (c : Dev nD) : wM.view.ty.Contents (Elt F) := (win0_3.blk t0_0).view.read (Elt F) (m ((c : Thread nD τ).loc main_arg1))
/-- The first scale, staged. -/
def sxC (c : Dev nD) : sxM.view.ty.Contents (Elt F) := (win0_0.blk t0_0).view.read (Elt F) (m ((c : Thread nD τ).loc main_arg2))
/-- The second scale, staged. -/
def swC (c : Dev nD) : swM.view.ty.Contents (Elt F) := (win0_1.blk t0_0).view.read (Elt F) (m ((c : Thread nD τ).loc main_arg3))

theorem ringOf_lt {q : ℕ} (h : q < 8192) : ringOf q < 8 := by unfold ringOf; omega
/-- The ring whose tile an index of the output lies in, -/
def ringAt (x : S512x8192.Idx) : Fin 8 := ⟨ringOf (x 1).val, ringOf_lt (x 1).isLt⟩
/-- and where in the tile. -/
def locAt (x : S512x8192.Idx) : S512x1024.Idx := Shape.pair (d := ![512, 1024]) (x 0) ⟨(x 1).val % 1024, Nat.mod_lt _ (by decide)⟩

theorem wR_at (x : S512x8192.Idx) : (wR (ringAt x)).toLoadRect.idx (locAt x) = x := by
  have h1 : (x 1).val < 8192 := (x 1).isLt
  funext a
  refine Fin.ext ?_
  match a with
  | ⟨0, _⟩ => show 0 + 1 * (x 0).val = (x 0).val; omega
  | ⟨1, _⟩ =>
    show wcol (ringAt x) + 1 * ((x 1).val % 1024) = (x 1).val
    rw [wcol_val]
    have e1 : ringOf (x 1).val % 2 = (x 1).val / 4096 := by unfold ringOf; omega
    have e2 : ringOf (x 1).val / 2 = (x 1).val / 1024 % 4 := by unfold ringOf; omega
    show 1024 * (4 * (ringOf (x 1).val % 2) + ringOf (x 1).val / 2) + 1 * ((x 1).val % 1024) = (x 1).val
    rw [e1, e2]; omega

/-- Contents of the output are known from their tiles. -/
theorem out_ext {f : oM.view.ty.Contents (Elt F)} {V : Fin 8 → Vec F S512x1024 .f32}
    (h : ∀ i, oM.view.readAt (Elt F) (wR i).toLoadRect f = V i) : f = fun x : S512x8192.Idx => V (ringAt x) (locAt x) := by
  funext x
  have e := congrFun (h (ringAt x)) (locAt x)
  rw [← e, View.readAt_apply, wR_at]
  rfl

/-- Device `c`'s result. -/
def outC (c : Dev nD) : oM.view.ty.Contents (Elt F) :=
  fun x : S512x8192.Idx => resV (xC' m) (wC' m) (scal sxM (sxC m c)) (scal swM (swC m c)) c (ringAt x) (locAt x)

/-! ## The pipeline's data -/

/-- What device `c`'s body starts from, beside the buffers. -/
def start (c : Dev nD) : sProp 𝕄 := iprop((∃ K κ, ctx (SS (xC' m) (wC' m)) K κ) ∗ lin c ∗ credits c)
/-- The scratch buffers. -/
def scratch (c : Dev nD) : sProp 𝕄 := iprop((∃ f, whole c commM f) ∗ (∃ f, whole c prM f) ∗ ∃ f, whole c plM f)
/-- Before the body: what it starts from, and its scratch. -/
def Φ₀ (c : Dev nD) : sProp 𝕄 := iprop(start m c ∗ scratch c)
/-- After the body: every semaphore at zero, and its scratch. -/
def Φ₁ (c : Dev nD) : sProp 𝕄 :=
  iprop(unscopedSems0 c ∗ Pipeline.ownSems0 (Ix := ℕ) (Name := ℕ) (U := UU) (Lvl := ℕ) (Val := Elt F) (τ := τ) ownSem c ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => sxC m c
    | ⟨1, _⟩ => swC m c
    | ⟨2, _⟩ => xC' m c
    | ⟨3, _⟩ => wC' m c
    | ⟨4, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- What the pipeline hands the body, -/
def before (c : Dev nD) : sProp 𝕄 :=
  iprop(Φ₀ m c ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- and what it takes back. -/
def after (c : Dev nD) : sProp 𝕄 :=
  iprop(Φ₁ c ∗ (dats m ρ 0 c).owesAt 0 t0_0.succ
    ∗ stg c cc0_stg0_0 (sxC m c) ∗ stg c cc0_stg1_0 (swC m c) ∗ stg c cc0_stg2_0 (xC' m c) ∗ stg c cc0_stg3_0 (wC' m c) ∗ stg c cc0_stg4_0 (outC m c))

theorem before_0 (c : Dev nD) (d) : (dats m ρ 0 c).before (0 : Fin 5) t0_0 d = sxC m c := by
  unfold Dat.before; rw [if_pos (fetch0_0 t0_0)]; rfl
theorem before_1 (c : Dev nD) (d) : (dats m ρ 0 c).before (1 : Fin 5) t0_0 d = swC m c := by
  unfold Dat.before; rw [if_pos (fetch0_1 t0_0)]; rfl
theorem before_2 (c : Dev nD) (d) : (dats m ρ 0 c).before (2 : Fin 5) t0_0 d = xC' m c := by
  unfold Dat.before; rw [if_pos (fetch0_2 t0_0)]; rfl
theorem before_3 (c : Dev nD) (d) : (dats m ρ 0 c).before (3 : Fin 5) t0_0 d = wC' m c := by
  unfold Dat.before; rw [if_pos (fetch0_3 t0_0)]; rfl

/-! ## The body -/

variable {K : Dev nD × CK → ℕ} {κ : Dev nD → ℕ}

/-- What the pipeline hands the body is what the body takes, -/
theorem open_body (c : Dev nD) : before m ρ c ⊢ (iprop(∃ K κ A U, ctx (SS (xC' m) (wC' m)) K κ ∗ bodyPre (xC' m) (wC' m) K κ c A U (sxC m c) (swC m c)) : sProp 𝕄) := by
  unfold before Φ₀ start scratch Dat.owesAt Pipeline.owesWithin
  simp only [before_0, before_1, before_2, before_3]
  iintro ⟨⟨⟨⟨%K, %κ, #Hctx⟩, Hlin, Hcr⟩, ⟨%f, Hc⟩, ⟨%g, Hr⟩, ⟨%g', Hl⟩⟩, ⟨%W, -, HO⟩, ⟨%d0, %f0, %e0, H0⟩, ⟨%d1, %f1, %e1, H1⟩, ⟨%d2, %f2, %e2, H2⟩, ⟨%d3, %f3, %e3, H3⟩, ⟨%d4, %f4, %e4, H4⟩⟩
  subst e0 e1 e2 e3
  ihave Hs := (sort c) $$ [Hlin Hcr]
  · isplitl [Hlin] <;> iassumption
  icases Hs with ⟨Hg, Hb, He, Hring⟩
  ihave Hc := (slots_split c f) $$ Hc
  icases Hc with ⟨Hc0, Hc1⟩
  ihave Hp := (parts_split c g g') $$ [Hr Hl]
  · isplitl [Hr] <;> iassumption
  icases Hp with ⟨%A, Hp⟩
  ihave Ho := (tiles_split c oM (View.set_whole _) wR wR_disj wR_cover f4) $$ H4
  iexists K; iexists κ; iexists A; iexists (fun i => oM.view.readAt (Elt F) (wR i).toLoadRect f4)
  isplitr; · iexact Hctx
  unfold bodyPre
  isplitr; · iexact Hctx
  isplitl [HO]; · iapply (ow_close c (O₀ c)); iexact HO
  isplitl [Hg]; · iexact Hg
  isplitl [Hb]; · iexact Hb
  isplitl [He]; · iexact He
  isplitl [Hring]; · iexact Hring
  isplitl [Hc0]; · iexact Hc0
  isplitl [Hc1]; · iexact Hc1
  isplitl [Ho]; · iexact Ho
  isplitl [Hp]; · iexact Hp
  isplitl [H2]; · iexact H2
  isplitl [H3]; · iexact H3
  isplitl [H0]; · iexact H0
  iexact H1

/-- and what the body leaves is what the pipeline takes back. -/
theorem close_body (c : Dev nD) :
    iprop(ctx (SS (xC' m) (wC' m)) K κ ∗ bodyPost (xC' m) (wC' m) c (sxC m c) (swC m c)) ⊢ (iprop(|={Set.univ}=> after m ρ c) : sProp 𝕄) := by
  unfold bodyPost
  iintro ⟨#Hctx, HO, Hb, He, Hr, Ho, Hp, H2, H3, H0, H1⟩
  imod (close_all (S := SS (xC' m) (wC' m)) (K := K) (κ := κ) c) $$ [Hb He Hr] with ⟨Hs, Hu, Hown⟩
  · isplitr; · iexact Hctx
    isplitl [Hb]; · iexact Hb
    isplitl [He] <;> iassumption
  imodintro
  ihave Hs := (slots_join c (m ((c : Thread nD τ).loc cc0_scratch0))) $$ Hs
  ihave Hp := (parts_join c _ (m ((c : Thread nD τ).loc cc0_scratch1)) (m ((c : Thread nD τ).loc cc0_scratch2))) $$ Hp
  ihave Ho := (tiles_join c oM (View.set_whole _) wR wR_disj wR_cover _ (outC m c)) $$ Ho
  icases Ho with ⟨%f, %hf, Ho⟩
  have hf' := out_ext hf
  ihave HO := (ow_open c 0) $$ HO
  icases HO with ⟨%W, HO⟩
  unfold after Φ₁ scratch Dat.owesAt Pipeline.owesWithin
  isplitl [Hs Hp Hu Hown]
  · isplitl [Hu]; · iexact Hu
    isplitl [Hown]; · iexact Hown
    isplitl [Hs]; · iexact Hs
    iexact Hp
  isplitl [HO]
  · iexists W
    isplitr; · ipureintro; exact fun _ _ => Or.inl trivial
    iexact HO
  isplitl [H0]; · iexists (sxC m c); isplitr; · ipureintro; rfl
                  iexact H0
  isplitl [H1]; · iexists (swC m c); isplitr; · ipureintro; rfl
                  iexact H1
  isplitl [H2]; · iexists (xC' m c); isplitr; · ipureintro; rfl
                  iexact H2
  isplitl [H3]; · iexists (wC' m c); isplitr; · ipureintro; rfl
                  iexact H3
  iexists f
  isplitr; · ipureintro; exact hf'
  iexact Ho

theorem body_sound (c : Dev nD) : before m ρ c ⊢ (wpR c bodyP (fun _ => after m ρ c) : sProp 𝕄) := by
  iintro H
  ihave H := (open_body m ρ c) $$ H
  icases H with ⟨%K, %κ, %A, %U, #Hctx, Hpre⟩
  iapply (wp_fupd frame (wpE (defs₀ (F := F)) 𝒱₀ (c : Thread nD τ) none) Set.univ bodyP (fun _ => after m ρ c))
  iapply (bodyP_step (xC' m) (wC' m) c A U (sxC m c) (swC m c) (fun _ => iprop(|={Set.univ}=> after m ρ c))) $$ Hpre
  iintro Hpost
  iapply (close_body (K := K) (κ := κ) m ρ c)
  isplitr; · iexact Hctx
  iexact Hpost

set_option maxRecDepth 16000 in
/-- The pipeline's obligation on the body. -/
theorem body_obligation (c : Dev nD) : BodyObligation (dats (F := F) m ρ 0 c) (defs₀ (F := F)) 𝒱₀ 0 Set.univ := fun t => by
  rw [fin_N0 t]
  rw [bigSep_W0, bigSep_W0]
  simp only [owns_stg]
  have e : bodyAt0 (F := F) t0_0 = bodyP := body_eq
  have e1 : (dats m ρ 0 c).Φ t0_0.castSucc = Φ₀ m c := rfl
  have e2 : (dats m ρ 0 c).Φ t0_0.succ = Φ₁ c := rfl
  have e3 : defs₀ (F := F) Proc.tc 0 (t0_0, cfg0.slots t0_0) = bodyAt0 t0_0 := rfl
  have e4 : (dats m ρ 0 c).after 0 t0_0 = sxC m c := rfl
  have e5 : (dats m ρ 0 c).after 1 t0_0 = swC m c := rfl
  have e6 : (dats m ρ 0 c).after 2 t0_0 = xC' m c := rfl
  have e7 : (dats m ρ 0 c).after 3 t0_0 = wC' m c := rfl
  have e8 : (dats m ρ 0 c).after 4 t0_0 = outC m c := rfl
  rw [e1, e2, e3, e4, e5, e6, e7, e8, e]
  have h := body_sound m ρ c
  refine BIBase.Entails.trans (Q := before m ρ c) ?_ ?_
  · unfold before
    iintro ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    iexact H7
  · refine BIBase.Entails.trans h ?_
    have h2 : (fun _ => after m ρ c : PUnit → sProp 𝕄) = fun _ => iprop(Φ₁ c ∗ (dats m ρ 0 c).owesAt 0 t0_0.succ
        ∗ stg c cc0_stg0_0 (sxC m c) ∗ stg c cc0_stg1_0 (swC m c) ∗ stg c cc0_stg2_0 (xC' m c) ∗ stg c cc0_stg3_0 (wC' m c) ∗ stg c cc0_stg4_0 (outC m c)) := rfl
    unfold wpR
    rw [h2]

/-! ## The launch -/

theorem ownSemFacts : Pipeline.OwnSemFacts cfg0.spec ownSem where
  isScoped := by decide
  inj := fun a b h => Sum.inr.inj (semOf_inj (show semOf (.inr a) = semOf (.inr b) from h))
  disj := by decide

theorem share_eq (c : Dev nD) (w : Fin cfg0.W) : (dats m ρ 0 c).share w = fullShare := by unfold Dat.share; split <;> rfl

/-- The launch's ghost state. -/
def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (SS (xC' m) (wC' m)) c)
      ⊢ (iprop(|={Set.univ}=> (start m c ∗ emp)) : sProp 𝕄) := by
  unfold G' know start ctx
  iintro ⟨-, #Hlev, Hcr, -, ⟨%K, %κ, ⟨#H1, #H2, #H3⟩, Hlin⟩⟩
  ihave Hcr := (credits_intro c) $$ Hcr
  imodintro
  isplitl
  · isplitr
    · iexists K; iexists κ
      isplitr; · iexact H1
      isplitr; · iexact H2
      isplitr; · iexact Hlev
      iexact H3
    isplitl [Hlin] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl, scopedRest0_eq]
  unfold Φ₁ scratch
  iintro ⟨Hu, Ho, Hr⟩
  isplitl [Hu]; · iexact Hu
  isplitl [Ho]; · iexact Ho
  iexact Hr

theorem kindOf_none {s : SemLoc sig} (h : ∀ k, semOf k ≠ s) : kindOf s = none := dif_neg fun ⟨k, hk⟩ => h k hk

/-- The pipeline waits on nothing the rings need. -/
theorem waits (c : Dev nD) : (levAts L lv : sProp 𝕄) ⊢ Pipeline.cellsWaits cfgs (dats m ρ) 0 0 c :=
  Pipeline.cellsWaits_intro cfgs (dats m ρ) 0 0 c fun w s t => by
    have hk : lv ((c : Thread nD τ), .dma ((cfg0.win w).sem s)) 0 = 0 := by
      show (kindOf (.dma ((cfg0.win w).sem s))).elim 0 _ = 0
      rw [kindOf_none (by fin_cases w <;> fin_cases s <;> decide)]; rfl
    rcases t with ⟨_ | _, ht⟩
    · exact Pipeline.mayWait_of_levAts (by rw [L_tc]; decide) fun g i hp =>
        ⟨(above_O₀ c g i hp).1, lt_of_eq_of_lt hk (above_O₀ c g i hp).2⟩
    · show _ ⊢ MayWait _ _ _ 0
      rw [MayWait_zero]; iintro -; iempintro

/-! ## The run -/

/-- An array's contents at the end. -/
def finalA (c : Dev nD) (w : Fin cfg0.W) : Buf (Elt F) ((cfg0.win w).arr.view.loc (c : Thread nD τ)) := (dats m ρ 0 c).arrAt w cfg0.N

/-- Every array at the end is as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters @main runs to an end on all devices, every array is then as computed and every
    counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (SS (xC' m) (wC' m))) (G' := G' (SS (xC' m) (wC' m))) (u₀ := u₀)
    (hu₀ := by
      unfold u₀
      iintro Hu
      ihave H := (ownU_pair _ _) $$ Hu
      icases H with ⟨HP, HX⟩
      imod (fund_ring (SS (xC' m) (wC' m))) $$ HX with HG
      imodintro
      isplitl [HP] <;> iassumption)
    (hglob := glob (SS (xC' m) (wC' m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.Ends.lean ====
/- What the arrays hold after the run: the arguments what they held, the result what the rings computed. -/
module

public import proofs.«01_k».proof.Proof.Run

@[expose] public section

noncomputable section

namespace Cert.KernelIdeal.Ring

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## A window's one block is its whole array -/

theorem xC'_eq (c : Dev nD) : xC' m c = m ((c : Thread nD τ).loc main_arg0) :=
  Memref.read_access_unit_zero (Elt F) main_arg0 (off := fun a => win0_2.index t0_0 a * main_arg0.ty.shape.size a)
    (funext fun a => by fin_cases a <;> decide) (fun a => by fin_cases a <;> decide) _
theorem wC'_eq (c : Dev nD) : wC' m c = m ((c : Thread nD τ).loc main_arg1) :=
  Memref.read_access_unit_zero (Elt F) main_arg1 (off := fun a => win0_3.index t0_0 a * main_arg1.ty.shape.size a)
    (funext fun a => by fin_cases a <;> decide) (fun a => by fin_cases a <;> decide) _
theorem sxC_eq (c : Dev nD) : sxC m c = m ((c : Thread nD τ).loc main_arg2) :=
  Memref.read_access_unit_zero (Elt F) main_arg2 (off := fun a => win0_0.index t0_0 a * main_arg2.ty.shape.size a)
    (funext fun a => by fin_cases a <;> decide) (fun a => by fin_cases a <;> decide) _
theorem swC_eq (c : Dev nD) : swC m c = m ((c : Thread nD τ).loc main_arg3) :=
  Memref.read_access_unit_zero (Elt F) main_arg3 (off := fun a => win0_1.index t0_0 a * main_arg3.ty.shape.size a)
    (funext fun a => by fin_cases a <;> decide) (fun a => by fin_cases a <;> decide) _

/-- An argument's array ends as it began. -/
theorem finalA_in (c : Dev nD) (w : Fin cfg0.W) (h : (cfg0.win w).isOut = false) :
    finalA m ρ c w = m ((cfg0.win w).arr.view.loc (c : Thread nD τ)) := (dats (F := F) m ρ 0 c).arrAt_in w h _

/-- The result's array ends at what the rings computed. -/
theorem finalA_out (c : Dev nD) : finalA m ρ c (4 : Fin 5) = outC m c := by
  have h : (win0_4.blk t0_0).view.read (Elt F) (finalA m ρ c (4 : Fin 5)) = outC m c := by
    unfold finalA
    rw [show cfg0.N = t0_0.val + 1 from rfl, (dats m ρ 0 c).arrAt_succ (4 : Fin 5) t0_0, flush0_4, if_pos rfl]
    exact View.read_write_univ _ _
  rw [← h]
  exact (Memref.read_access_unit_zero (Elt F) main_v1 (off := fun a => win0_4.index t0_0 a * main_v1.ty.shape.size a)
    (funext fun a => by fin_cases a <;> decide) (fun a => by fin_cases a <;> decide) _).symm

/-- After the run the result is what the rings computed, the four arguments are what they were and every counter is zero. -/
theorem run_ends : θ_run defs (onTc (τ := τ) (main (F := F))) ⟨m, fun _ => 0, ρ⟩ (fun r =>
    (∀ c : Dev nD, r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c (4 : Fin 5)).trans (finalA_out m ρ c),
    (h.1 c (2 : Fin 5)).trans (finalA_in m ρ c (2 : Fin 5) rfl), (h.1 c (3 : Fin 5)).trans (finalA_in m ρ c (3 : Fin 5) rfl),
    (h.1 c (0 : Fin 5)).trans (finalA_in m ρ c (0 : Fin 5) rfl), (h.1 c (1 : Fin 5)).trans (finalA_in m ρ c (1 : Fin 5) rfl)⟩, h.2⟩)
    (run_main m ρ)

/-- The run, without the result. -/
theorem run_args : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => (h.1 c).2, h.2⟩) (run_ends m ρ)

end Cert.KernelIdeal.Ring
-- ==== Proof.Same.lean ====
/- The kernel as compiled and the kernel read over the reals have the same text. -/
module

public import proofs.«01_k».proof.Defs
public import proofs.«01_k».proof.Proof.Gen.Kernel
public import proofs.«01_k».proof.Proof.Gen.KernelIdeal

@[expose] public section

noncomputable section

namespace Cert.Proof

open Idealize.ShloMosaic

variable {F : FTy → Type} [FloatOps F]

set_option maxRecDepth 65536 in
/-- The two bodies are the same, -/
theorem body_same : Cert.Kernel.cc0__body (F := F) = Cert.KernelIdeal.cc0__body (F := F) := rfl

set_option maxRecDepth 65536 in
/-- so the two kernels are, -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => dsimp only; rw [body_same]
  | ⟨n + 1, h⟩, _ => exact absurd h (by omega)

/-- and the two programs' definitions. -/
theorem defs_same : Cert.Kernel.defs (F := F) = Cert.KernelIdeal.defs (F := F) :=
  congrArg (Pipeline.defs Cert.KernelIdeal.pcfgs) defs₀_same

end Cert.Proof
-- ==== Proof.Sums.lean ====
/- The rings' sums over the reals: what a ring has added up by the time a tile of the result is written is the sum over
   all devices of their partial products for it. -/
module

public import proofs.«01_k».proof.Proof.Body
public import proofs.«01_k».proof.Proof.Split
public import Idealize.ShloMosaic.Lib.ValueIdx
public import Idealize.ShloMosaic.Lib.MatmulPlain

@[expose] public section

noncomputable section

namespace Cert.KernelIdeal.Ring

open Cert.KernelIdeal Cert.KernelIdeal.Gen
open Idealize.ShloMosaic
open Idealize.ShloMosaic.TcCoe
open Idealize.ShloMosaic.ValueIdx

/-! ## Which rows a device takes -/

/-- Device `c`'s `k`-th predecessor along ring `i`. -/
def up (i : Fin 8) (k : ℕ) (c : Dev nD) : Dev nD := (bwdD i)^[k] c

theorem up_succ (i : Fin 8) (k : ℕ) (c : Dev nD) : bwdD i (up i k c) = up i (k + 1) c :=
  (Function.iterate_succ_apply' _ _ _).symm

/-- What sets out for device `c` at its seventh predecessor are rows for `c`, -/
theorem rows_first : ∀ (i : Fin 8) (c : Dev nD) (a : Fin 2), xOff0 i (up i 7 c) a = (![512 * c.val, 0] : Fin 2 → ℕ) a := by decide +kernel
/-- and so is what each later device adds. -/
theorem rows_hop : ∀ (i : Fin 8) (c : Dev nD) (h : Fin 7) (a : Fin 2), xOff i (up i (6 - h.val) c) h a = (![512 * c.val, 0] : Fin 2 → ℕ) a := by decide +kernel
/-- A ring passes every device on its way. -/
theorem up_inj : ∀ (i : Fin 8) (c : Dev nD) (k l : Fin 8), up i k.val c = up i l.val c → k = l := by decide +kernel

/-! ## Tiles, over the reals -/

variable (X : Dev nD → xM.view.ty.Contents (Elt Ideal)) (W : Dev nD → wM.view.ty.Contents (Elt Ideal))

/-- The row of `x` that is row `r` of device `c`'s block. -/
def rowOf (c : Dev nD) (r : Fin 512) : Fin 4096 := ⟨512 * c.val + r.val, by have h : c.val < 8 := c.isLt; omega⟩
/-- The column of `w` that is column `n` of ring `i`'s tile. -/
def colOf (i : Fin 8) (n : Fin 1024) : Fin 8192 := ⟨wcol i + n.val, by rw [wcol_val]; omega⟩

/-- A product of two reals. -/
abbrev mulR (a b : EReal) : EReal := a * b

/-- Device `d`'s partial product for row `r` of device `c`'s block and column `n` of ring `i`'s tile. -/
def part (c : Dev nD) (i : Fin 8) (r : Fin 512) (n : Fin 1024) (d : Dev nD) : EReal :=
  ∑ k : Fin 512, mulR (X d (ix2 (rowOf c r) k)) (W d (ix2 k (colOf i n)))

theorem mulV_apply (xc : FVec Ideal S512x512 .bf16) (w : Vec Ideal S512x1024 .fp8e5m2) (r : Fin 512) (n : Fin 1024) :
    (mulV xc w : S512x1024.Idx → EReal) (ix2 r n) = ∑ k : Fin 512, mulR (xc (ix2 r k)) (w (ix2 k n)) := by
  have h := Ideal.matmul_plain_apply (M := 512) (K := 512) (N := 1024) none xc (extf .bf16 w bitsLt_fp8e5m2_bf16 : FVec Ideal S512x1024 .bf16) (constant S512x1024 .f32 0x00000000#32) r n
  refine Eq.trans (show _ = _ from h) ?_
  rw [show (constant S512x1024 .f32 0x00000000#32 : FVec Ideal S512x1024 .f32) (ix2 r n) = (0 : EReal) from Ideal.ofBits_zero_f32, zero_add]
  rfl

/-- A tile of products of rows of `x` that are device `c`'s. -/
theorem tile_apply {off : Fin 2 → ℕ} (inb : ∀ a, off a + S512x512.size a ≤ S4096x512.size a) (c d : Dev nD) (i : Fin 8)
    (h : ∀ a, off a = (![512 * c.val, 0] : Fin 2 → ℕ) a) (r : Fin 512) (n : Fin 1024) :
    (mulV (k0_pay2 (xM.view.readAt (Elt Ideal) (Rect.unit (s := S4096x512) off S512x512.size inb).toLoadRect (X d))) (wT (W d) i) : S512x1024.Idx → EReal) (ix2 r n)
      = part X W c i r n d := by
  obtain rfl : off = ![512 * c.val, 0] := funext h
  rw [mulV_apply]
  refine Finset.sum_congr rfl fun k _ => ?_
  have e1 : (Rect.unit (s := S4096x512) ![512 * c.val, 0] S512x512.size inb).toLoadRect.idx (ix2 r k) = ix2 (rowOf c r) k := by
    funext a; refine Fin.ext ?_
    match a with
    | ⟨0, _⟩ => show 512 * c.val + 1 * r.val = 512 * c.val + r.val; omega
    | ⟨1, _⟩ => show 0 + 1 * k.val = k.val; omega
  have e2 : (wR i).toLoadRect.idx (ix2 k n) = ix2 k (colOf i n) := by
    funext a; refine Fin.ext ?_
    match a with
    | ⟨0, _⟩ => show 0 + 1 * k.val = k.val; omega
    | ⟨1, _⟩ => show wcol i + 1 * n.val = wcol i + n.val; omega
  unfold k0_pay2
  rw [shapeCast_self]
  show mulR (X d ((Rect.unit (s := S4096x512) ![512 * c.val, 0] S512x512.size inb).toLoadRect.idx (ix2 r k)))
    (W d ((wR i).toLoadRect.idx (ix2 k n))) = _
  rw [e1, e2]

theorem first_apply (c : Dev nD) (i : Fin 8) (r : Fin 512) (n : Fin 1024) :
    (SV X W 0 i (up i 7 c) : S512x1024.Idx → EReal) (ix2 r n) = part X W c i r n (up i 7 c) :=
  tile_apply X W (xOff0_inb i (up i 7 c)) c (up i 7 c) i (rows_first i c) r n

theorem hop_apply (c : Dev nD) (i : Fin 8) (h : Fin 7) (r : Fin 512) (n : Fin 1024) :
    (PV (X (up i (6 - h.val) c)) (W (up i (6 - h.val) c)) (up i (6 - h.val) c) h i : S512x1024.Idx → EReal) (ix2 r n)
      = part X W c i r n (up i (6 - h.val) c) := by
  unfold PV
  rw [pay24_eq]
  exact tile_apply X W (xOff_inb i (up i (6 - h.val) c) h) c (up i (6 - h.val) c) i (rows_hop i c h) r n

/-- What a ring has summed for device `c` after `h` hops: the parts of the devices passed. -/
theorem sum_apply (c : Dev nD) (i : Fin 8) (r : Fin 512) (n : Fin 1024) : ∀ h : ℕ, h ≤ 6 →
    (SV X W h i (up i (7 - h) c) : S512x1024.Idx → EReal) (ix2 r n) = ∑ k ∈ Finset.range (h + 1), part X W c i r n (up i (7 - k) c)
  | 0, _ => by rw [Finset.sum_range_one]; exact first_apply X W c i r n
  | h + 1, hh => by
    rw [Finset.sum_range_succ, ← sum_apply c i r n h (by omega)]
    have e : bwdD i (up i (7 - (h + 1)) c) = up i (7 - h) c := by rw [up_succ]; congr 1; omega
    have hp := hop_apply X W c i (hx h) r n
    have e6 : 6 - (hx h).val = 7 - (h + 1) := by show 6 - h % 7 = _; omega
    rw [e6] at hp
    rw [← hp, ← e]
    rfl

/-- The last addition, at the device itself: the parts of all devices. -/
theorem total_apply (c : Dev nD) (i : Fin 8) (r : Fin 512) (n : Fin 1024) :
    (SV X W 6 i (bwdD i c) : S512x1024.Idx → EReal) (ix2 r n) + (PV (X c) (W c) c 6 i : S512x1024.Idx → EReal) (ix2 r n)
      = ∑ d : Dev nD, part X W c i r n d := by
  have h1 := sum_apply X W c i r n 6 (le_refl 6)
  have h2 := hop_apply X W c i 6 r n
  rw [show up i (7 - 6) c = bwdD i c from rfl] at h1
  rw [show up i (6 - (6 : Fin 7).val) c = c from rfl] at h2
  have hs : ∑ k ∈ Finset.range 8, part X W c i r n (up i (7 - k) c) = ∑ d : Dev nD, part X W c i r n d := by
    rw [Finset.sum_range]
    have hb : Function.Injective (fun k : Fin 8 => (up i (7 - k.val) c : Fin 8)) := fun k l h => by
      have := congrArg Fin.val (up_inj i c ⟨7 - k.val, by omega⟩ ⟨7 - l.val, by omega⟩ h)
      have h' : 7 - k.val = 7 - l.val := this
      exact Fin.ext (by omega)
    exact (Finite.injective_iff_bijective.mp hb).sum_comp (fun d : Fin 8 => part X W c i r n d)
  rw [h1, h2, ← hs, Finset.sum_range_succ _ 7]
  rfl

end Cert.KernelIdeal.Ring
-- ==== Proof.RefValue.lean ====
/- What the reference's result holds after its run. -/
module

public import proofs.«01_k».proof.Proof.Gen.ReferenceIdeal.Value
public import Idealize.ShloMosaic.Lib.Pipeline.ValueKit
public import Idealize.ShloMosaic.Lib.Pipeline.ReadBack
public import Idealize.ShloMosaic.Lib.ValueIdx
public import Idealize.ShloMosaic.Lib.MatmulPlain

@[expose] public section

noncomputable section

namespace Cert.ReferenceIdeal.Whole

open Cert.ReferenceIdeal Cert.ReferenceIdeal.Gen Cert.ReferenceIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The windows' one block starts at the origin. -/
theorem origin : ∀ t : Fin cfg0.N, win0_0.index t = ![0, 0] ∧ win0_1.index t = ![0, 0] ∧ win0_2.index t = ![0] ∧ win0_3.index t = ![0] ∧ win0_4.index t = ![0, 0] :=
  (by decide +kernel : ∀ t : Fin grid0.N, _)

/-- Each window's block is the whole array. -/
theorem iblk_0 (c : Dev nD) : iblk m c 0 t0_0 = m ((c : Thread nD τ).loc main_arg0) := by blk_ext! [iblk, V, origin t0_0]
theorem iblk_1 (c : Dev nD) : iblk m c 1 t0_0 = m ((c : Thread nD τ).loc main_arg1) := by blk_ext! [iblk, V, origin t0_0]
theorem iblk_2 (c : Dev nD) : iblk m c 2 t0_0 = m ((c : Thread nD τ).loc main_arg2) := by blk_ext! [iblk, V, origin t0_0]
theorem iblk_3 (c : Dev nD) : iblk m c 3 t0_0 = m ((c : Thread nD τ).loc main_arg3) := by blk_ext! [iblk, V, origin t0_0]

/-- An array of one element has one place. -/
theorem first_S1 (h : 0 < S1.numel) : (Shape.Idx.first h : S1.Idx) = ValueIdx.ix1 0 := by
  funext a
  match a with
  | ⟨0, _⟩ => exact Subsingleton.elim (α := Fin 1) _ _

/-- The result: the gated product of the two arrays, scaled. -/
def res (c : Dev nD) : Vec Ideal S4096x8192 .f32 :=
  k0_pay1 (F := Ideal) (m ((c : Thread nD τ).loc main_arg0)) (m ((c : Thread nD τ).loc main_arg1))
    ((m ((c : Thread nD τ).loc main_arg2) : S1.Idx → Ideal .f32) (ValueIdx.ix1 0))
    ((m ((c : Thread nD τ).loc main_arg3) : S1.Idx → Ideal .f32) (ValueIdx.ix1 0))

theorem final (c : Dev nD) : (dats m 0 c).arrAt 4 cfg0.N = res m c := by
  refine (dats m 0 c).arrAt_eq_of_after_last 4 t0_0 (by decide +kernel) _ fun j => ?_
  blk_simp
  rw [after0_4]
  unfold outsAt0
  frame_out
  rw [iblk_0, iblk_1, iblk_2, iblk_3]
  unfold res
  simp only [read_unread_whole, first_S1]

/-- The whole product at a row and a column. -/
def dotAt (x : Vec Ideal S4096x4096 .fp8e4m3) (w : Vec Ideal S4096x8192 .fp8e5m2) (r : Fin 4096) (n : Fin 8192) : EReal :=
  ∑ k : Fin 4096, (show EReal from x (ValueIdx.ix2 r k)) * (show EReal from w (ValueIdx.ix2 k n))

/-- A scaled and gated element. -/
def gate (v sx sw : Ideal .f32) : Ideal .f32 :=
  FloatOps.divf (FloatOps.mulf v (Scalar.mulf sx sw))
    (FloatOps.addf (Scalar.ofBits .f32 0x3F800000#32)
      (FloatOps.exp (FloatOps.subf (Scalar.ofBits .f32 0x00000000#32)
        (FloatOps.minimumf (Scalar.ofBits .f32 0x42700000#32)
          (FloatOps.maximumf (Scalar.ofBits .f32 0xC2700000#32) (FloatOps.mulf v (Scalar.mulf sx sw)))))))

/-- The reference's result at a row and a column: the product's element, scaled and gated. -/
theorem pay_apply (x : Vec Ideal S4096x4096 .fp8e4m3) (w : Vec Ideal S4096x8192 .fp8e5m2) (sx sw : Ideal .f32) (r : Fin 4096) (n : Fin 8192) :
    k0_pay1 (F := Ideal) x w sx sw (ValueIdx.ix2 r n) = gate (dotAt x w r n) sx sw := by
  have h := Ideal.matmul_plain_apply (M := 4096) (K := 4096) (N := 8192) none (extf .f32 x bitsLt_fp8e4m3_f32 : FVec Ideal S4096x4096 .f32)
    (extf .f32 w bitsLt_fp8e5m2_f32 : FVec Ideal S4096x8192 .f32) (constant S4096x8192 .f32 0x00000000#32) r n
  rw [show (constant S4096x8192 .f32 0x00000000#32 : FVec Ideal S4096x8192 .f32) (ValueIdx.ix2 r n) = (0 : EReal) from Ideal.ofBits_zero_f32, zero_add] at h
  unfold k0_pay1
  refine Eq.trans (b := gate (FloatOps.matmul (DotDims.plain 4096 4096 8192) none (extf .f32 x bitsLt_fp8e4m3_f32 : FVec Ideal S4096x4096 .f32)
    (extf .f32 w bitsLt_fp8e5m2_f32 : FVec Ideal S4096x8192 .f32) (constant S4096x8192 .f32 0x00000000#32) (ValueIdx.ix2 r n)) sx sw) rfl ?_
  rw [h]
  rfl

end Cert.ReferenceIdeal.Whole
-- ==== Proof.Agree.lean ====
/- The kernel's result over the reals is the reference's: the sums over the devices are the whole product's sums. -/
module

public import proofs.«01_k».proof.Defs
public import proofs.«01_k».proof.Proof.Ends
public import proofs.«01_k».proof.Proof.Sums
public import proofs.«01_k».proof.Proof.RefValue

@[expose] public section

noncomputable section

namespace Cert.KernelIdeal.Ring

open Cert.KernelIdeal Cert.KernelIdeal.Gen
open Idealize.ShloMosaic hiding ix1 ix2 eq_ix1 eq_ix2
open Idealize.ShloMosaic.TcCoe
open Idealize.ShloMosaic.ValueIdx
open Idealize.SL.Sem
open Cert.ReferenceIdeal.Whole (gate dotAt)

/-- A sum of two reals. -/
abbrev addR (a b : EReal) : EReal := a + b

/-- The last step of a ring at an element: the two sums added, scaled and gated. -/
theorem outV_apply (V p : Vec Ideal S512x1024 .bf16) (sx sw : Ideal .f32) (r : Fin 512) (n : Fin 1024) :
    outV V p sx sw (ix2 r n) = gate (addR (V (ix2 r n)) (p (ix2 r n))) sx sw := by
  unfold outV k0_pay162
  rw [shapeCast_shapeCast]
  rfl

/-- Device `d`'s columns of `x`, and its rows of `w`, as those of the whole arrays. -/
def inOf (d : Dev nD) (k : Fin 512) : Fin 4096 := ⟨d.val * 512 + k.val, by have h : d.val < 8 := d.isLt; omega⟩

/-- A sum over the whole inner dimension, device by device. -/
theorem sum_devices (f : Fin 4096 → EReal) : ∑ d : Dev nD, ∑ k : Fin 512, f (inOf d k) = ∑ K : Fin 4096, f K := by
  have h := (finProdFinEquiv (m := 8) (n := 512)).sum_comp (fun K : Fin (8 * 512) => f K)
  rw [Fintype.sum_prod_type] at h
  refine Eq.trans ?_ h
  refine Finset.sum_congr rfl fun d _ => Finset.sum_congr rfl fun k _ => congrArg f (Fin.ext ?_)
  show d.val * 512 + k.val = k.val + 512 * d.val
  omega

variable (x : (⟨2, ![4096, 4096]⟩ : Shape).Idx → Elt Ideal .fp8e4m3) (w : (⟨2, ![4096, 8192]⟩ : Shape).Idx → Elt Ideal .fp8e5m2)

/-- Device `c`'s block of `x`, -/
theorem block_x (c : Dev nD) (r : Fin 4096) (k : Fin 512) :
    Layout.block ⟨2, ![4096, 512]⟩ ⟨2, ![4096, 4096]⟩ 1 8 c x (by decide) (ix2 r k) = x (ix2 r (inOf c k)) := by
  rw [Layout.block_apply]
  refine congrArg x (funext fun a => Fin.ext ?_)
  match a with
  | ⟨0, _⟩ => rfl
  | ⟨1, _⟩ => rfl
/-- its block of `w`, -/
theorem block_w (c : Dev nD) (k : Fin 512) (n : Fin 8192) :
    Layout.block ⟨2, ![512, 8192]⟩ ⟨2, ![4096, 8192]⟩ 0 8 c w (by decide) (ix2 k n) = w (ix2 (inOf c k) n) := by
  rw [Layout.block_apply]
  refine congrArg w (funext fun a => Fin.ext ?_)
  match a with
  | ⟨0, _⟩ => rfl
  | ⟨1, _⟩ => rfl
/-- and its block of the result. -/
theorem block_out {α : Type} (v : (⟨2, ![4096, 8192]⟩ : Shape).Idx → α) (c : Dev nD) (r : Fin 512) (n : Fin 8192) :
    Layout.block ⟨2, ![512, 8192]⟩ ⟨2, ![4096, 8192]⟩ 0 8 c v (by decide) (ix2 r n) = v (ix2 (rowOf c r) n) := by
  rw [Layout.block_apply]
  refine congrArg v (funext fun a => Fin.ext ?_)
  match a with
  | ⟨0, _⟩ => show c.val * 512 + r.val = 512 * c.val + r.val; omega
  | ⟨1, _⟩ => rfl

/-- All devices' parts of an element are the whole product's element. -/
theorem parts_apply (X : Dev nD → xM.view.ty.Contents (Elt Ideal)) (W : Dev nD → wM.view.ty.Contents (Elt Ideal))
    (hX : ∀ d, X d = Layout.block ⟨2, ![4096, 512]⟩ ⟨2, ![4096, 4096]⟩ 1 8 d x (by decide))
    (hW : ∀ d, W d = Layout.block ⟨2, ![512, 8192]⟩ ⟨2, ![4096, 8192]⟩ 0 8 d w (by decide))
    (c : Dev nD) (i : Fin 8) (r : Fin 512) (n : Fin 1024) :
    ∑ d : Dev nD, part X W c i r n d = dotAt x w (rowOf c r) (colOf i n) := by
  unfold dotAt
  rw [← sum_devices]
  refine Finset.sum_congr rfl fun d _ => Finset.sum_congr rfl fun k _ => ?_
  rw [hX d, hW d]
  exact congrArg₂ mulR (block_x x d (rowOf c r) k) (block_w w d k (colOf i n))

variable (m : (ℓ : Loc nD τ sig) → Buf (Elt Ideal) ℓ)
variable (m' : (ℓ : Loc Cert.ReferenceIdeal.nD Cert.ReferenceIdeal.τ Cert.ReferenceIdeal.sig) → Buf (Elt Ideal) ℓ)

theorem scal_sx (c : Dev nD) : scal sxM (sxC m c) = (m ((c : Thread nD τ).loc main_arg2) : S1.Idx → Ideal .f32) (ix1 0) := by
  rw [sxC_eq]
  refine congrArg (m ((c : Thread nD τ).loc main_arg2) : S1.Idx → Ideal .f32) (funext fun a => ?_)
  match a with
  | ⟨0, _⟩ => exact Subsingleton.elim (α := Fin 1) _ _
theorem scal_sw (c : Dev nD) : scal swM (swC m c) = (m ((c : Thread nD τ).loc main_arg3) : S1.Idx → Ideal .f32) (ix1 0) := by
  rw [swC_eq]
  refine congrArg (m ((c : Thread nD τ).loc main_arg3) : S1.Idx → Ideal .f32) (funext fun a => ?_)
  match a with
  | ⟨0, _⟩ => exact Subsingleton.elim (α := Fin 1) _ _

abbrev refT : Thread Cert.ReferenceIdeal.nD Cert.ReferenceIdeal.τ := ((0 : Dev Cert.ReferenceIdeal.nD).tc : Thread _ _)

/-- Where each device holds its blocks of the reference's arguments, it computes its block of the reference's result. -/
theorem out_agrees
    (h0 : ∀ d : Dev nD, m ((d : Thread nD τ).loc main_arg0) = Layout.block ⟨2, ![4096, 512]⟩ ⟨2, ![4096, 4096]⟩ 1 8 d (m' (refT.loc Cert.ReferenceIdeal.main_arg0)))
    (h1 : ∀ d : Dev nD, m ((d : Thread nD τ).loc main_arg1) = Layout.block ⟨2, ![512, 8192]⟩ ⟨2, ![4096, 8192]⟩ 0 8 d (m' (refT.loc Cert.ReferenceIdeal.main_arg1)))
    (c : Dev nD)
    (h2 : m ((c : Thread nD τ).loc main_arg2) = m' (refT.loc Cert.ReferenceIdeal.main_arg2))
    (h3 : m ((c : Thread nD τ).loc main_arg3) = m' (refT.loc Cert.ReferenceIdeal.main_arg3)) :
    outC m c = Layout.block ⟨2, ![512, 8192]⟩ ⟨2, ![4096, 8192]⟩ 0 8 c (Cert.ReferenceIdeal.Whole.res m' 0) := by
  funext j
  obtain ⟨r, N, rfl⟩ : ∃ (r : Fin 512) (N : Fin 8192), j = ix2 r N := ⟨j 0, j 1, eq_ix2 j⟩
  rw [block_out]
  have hcol : colOf (ringAt (ix2 r N)) ⟨N.val % 1024, Nat.mod_lt _ (by decide)⟩ = N := by
    have h := congrFun (wR_at (ix2 r N)) 1
    refine Fin.ext (Eq.trans ?_ (congrArg Fin.val h))
    show wcol _ + N.val % 1024 = wcol _ + 1 * (N.val % 1024)
    omega
  have hloc : locAt (ix2 r N) = ix2 r ⟨N.val % 1024, Nat.mod_lt _ (by decide)⟩ := by
    funext a
    match a with
    | ⟨0, _⟩ => rfl
    | ⟨1, _⟩ => rfl
  show resV (xC' m) (wC' m) (scal sxM (sxC m c)) (scal swM (swC m c)) c (ringAt (ix2 r N)) (locAt (ix2 r N)) = _
  unfold resV Cert.ReferenceIdeal.Whole.res
  rw [hloc, outV_apply, Cert.ReferenceIdeal.Whole.pay_apply]
  have hs := total_apply (xC' m) (wC' m) c (ringAt (ix2 r N)) r ⟨N.val % 1024, Nat.mod_lt _ (by decide)⟩
  rw [parts_apply _ _ (xC' m) (wC' m) (fun d => (xC'_eq m d).trans (h0 d)) (fun d => (wC'_eq m d).trans (h1 d)), hcol] at hs
  rw [scal_sx, scal_sw, h2, h3]
  exact congrArg (fun v => gate v _ _) hs

end Cert.KernelIdeal.Ring
-- ==== Proof.lean ====
/- The certificate: the kernel's claims, assembled from its run and its values. -/
module

public import proofs.«01_k».proof.Defs
public import proofs.«01_k».proof.Proof.Ends
public import proofs.«01_k».proof.Proof.Same
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The kernel as compiled runs to an end, leaves its arguments as they were and every counter at zero: its text is the
    idealized kernel's, whose run is proved over any floats. -/
theorem frame_kernel : Cert.quiescent_Kernel := fun m ρ _ => by
  rw [defs_same]
  exact Cert.KernelIdeal.Ring.run_args (F := Bits) m ρ

/-- The same of the idealized kernel. -/
theorem frame_kernelIdeal : Cert.quiescent_KernelIdeal := fun m ρ _ => Cert.KernelIdeal.Ring.run_args (F := Ideal) m ρ

/-- The same of the reference. -/
theorem frame_reference : Cert.quiescent_ReferenceIdeal := fun m ρ _ => Cert.ReferenceIdeal.Gen.frame m ρ

/-- Over the reals every device ends with its block of the reference's result, from any launch in which it holds its
    blocks of the reference's arguments. -/
theorem algebraic : Cert.algebraic_KernelIdeal_ReferenceIdeal := fun m ρ m' ρ' _ hagree =>
  ⟨Cert.ReferenceIdeal.Whole.res m' 0,
    (θ_run Cert.KernelIdeal.defs _ _).mono (fun r h c => ⟨((h.1 c).1).trans
        (Cert.KernelIdeal.Ring.out_agrees m m' (fun d => (hagree d).1) (fun d => (hagree d).2.1) c (hagree c).2.2.1 (hagree c).2.2.2), (h.1 c).2⟩)
      (Cert.KernelIdeal.Ring.run_ends (F := Ideal) m ρ),
    (θ_run Cert.ReferenceIdeal.defs _ _).mono (fun r h => ⟨((h 0).1).trans (Cert.ReferenceIdeal.Whole.final m' 0), (h 0).2⟩)
      (Cert.ReferenceIdeal.Value.run_blocks m' ρ')⟩

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
